-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 64]⟩ ⟨2, ![1024, 64]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 64]⟩ ⟨2, ![1024, 64]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x64 : Shape := ⟨2, ![128, 64]⟩
abbrev S1024x64 : Shape := ⟨2, ![1024, 64]⟩
abbrev S7 : Shape := ⟨1, ![7]⟩
abbrev S_ : Shape := ⟨0, ![]⟩
abbrev S1 : Shape := ⟨1, ![1]⟩
abbrev S256x64 : Shape := ⟨2, ![256, 64]⟩
abbrev S512x64 : Shape := ⟨2, ![512, 64]⟩

abbrev nBuf : Space → Nat
  | .hbm => 2
  | .vmem => 4
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S1024x64, .f32⟩
  | .local _ .vmem, ⟨3, _⟩ => ⟨S1024x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_210 : BitVec 32 := 128#32
  let v534 : BitVec 32 := Scalar.muli v2 c128_i32_210
  let v535 : Index := Scalar.indexCast v534
  let c0_211 : Index := 0#32
  ![v535.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_213 : BitVec 32 := 128#32
  let v540 : BitVec 32 := Scalar.muli v2 c128_i32_213
  let c0_i32_219 : BitVec 32 := 0#32
  ![v540.toNat, 0]
def k0_dev8 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_214 : BitVec 32 := 1#32
  let v541 : BitVec 32 := Scalar.xori v2 c1_i32_214
  let c1_i32_217 : BitVec 32 := 1#32
  let v542 : BitVec 32 := Scalar.muli v541 c1_i32_217
  let v543 : BitVec 32 := Scalar.addi c0_i32_218 v542
  v543.toNat
def k0_dev9 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_227 : BitVec 32 := 2#32
  let v556 : BitVec 32 := Scalar.xori v2 c2_i32_227
  let c1_i32_230 : BitVec 32 := 1#32
  let v557 : BitVec 32 := Scalar.muli v556 c1_i32_230
  let v558 : BitVec 32 := Scalar.addi c0_i32_231 v557
  v558.toNat
def k0_dev10 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_240 : BitVec 32 := 3#32
  let v571 : BitVec 32 := Scalar.xori v2 c3_i32_240
  let c1_i32_243 : BitVec 32 := 1#32
  let v572 : BitVec 32 := Scalar.muli v571 c1_i32_243
  let v573 : BitVec 32 := Scalar.addi c0_i32_244 v572
  v573.toNat
def k0_dev11 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_253 : BitVec 32 := 4#32
  let v586 : BitVec 32 := Scalar.xori v2 c4_i32_253
  let c1_i32_256 : BitVec 32 := 1#32
  let v587 : BitVec 32 := Scalar.muli v586 c1_i32_256
  let v588 : BitVec 32 := Scalar.addi c0_i32_257 v587
  v588.toNat
def k0_dev12 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_266 : BitVec 32 := 5#32
  let v601 : BitVec 32 := Scalar.xori v2 c5_i32_266
  let c1_i32_269 : BitVec 32 := 1#32
  let v602 : BitVec 32 := Scalar.muli v601 c1_i32_269
  let v603 : BitVec 32 := Scalar.addi c0_i32_270 v602
  v603.toNat
def k0_dev13 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_279 : BitVec 32 := 6#32
  let v616 : BitVec 32 := Scalar.xori v2 c6_i32_279
  let c1_i32_282 : BitVec 32 := 1#32
  let v617 : BitVec 32 := Scalar.muli v616 c1_i32_282
  let v618 : BitVec 32 := Scalar.addi c0_i32_283 v617
  v618.toNat
def k0_dev14 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_292 : BitVec 32 := 7#32
  let v631 : BitVec 32 := Scalar.xori v2 c7_i32_292
  let c1_i32_295 : BitVec 32 := 1#32
  let v632 : BitVec 32 := Scalar.muli v631 c1_i32_295
  let v633 : BitVec 32 := Scalar.addi c0_i32_296 v632
  v633.toNat
def k0_off3 (d0 : Dev nD) (c1_i32_222 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v551 : BitVec 32 := Scalar.xori v2 c1_i32_222
  let c128_i32_223 : BitVec 32 := 128#32
  let v552 : BitVec 32 := Scalar.muli v551 c128_i32_223
  let c0_i32_307 : BitVec 32 := 0#32
  ![v552.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m2_i32 : BitVec 32 := 4294967294#32
  let v650 : BitVec 32 := Scalar.andi v2 c_m2_i32
  let c128_i32_309 : BitVec 32 := 128#32
  let v651 : BitVec 32 := Scalar.muli v650 c128_i32_309
  let v652 : Index := Scalar.indexCast v651
  let c0_310 : Index := 0#32
  ![v652.toNat, 0]
def k0_off5 (d0 : Dev nD) (c2_i32_360 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v786 : BitVec 32 := Scalar.xori v2 c2_i32_360
  let c_m2_i32_361 : BitVec 32 := 4294967294#32
  let v787 : BitVec 32 := Scalar.andi v786 c_m2_i32_361
  let c128_i32_362 : BitVec 32 := 128#32
  let v788 : BitVec 32 := Scalar.muli v787 c128_i32_362
  let v789 : Index := Scalar.indexCast v788
  let c0_363 : Index := 0#32
  ![v789.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m4_i32 : BitVec 32 := 4294967292#32
  let v911 : BitVec 32 := Scalar.andi v2 c_m4_i32
  let c128_i32_408 : BitVec 32 := 128#32
  let v912 : BitVec 32 := Scalar.muli v911 c128_i32_408
  let v913 : Index := Scalar.indexCast v912
  let c0_409 : Index := 0#32
  ![v913.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_570 : BitVec 32 := 4#32
  let v1323 : BitVec 32 := Scalar.xori v2 c4_i32_570
  let c_m4_i32_571 : BitVec 32 := 4294967292#32
  let v1324 : BitVec 32 := Scalar.andi v1323 c_m4_i32_571
  let c128_i32_572 : BitVec 32 := 128#32
  let v1325 : BitVec 32 := Scalar.muli v1324 c128_i32_572
  let v1326 : Index := Scalar.indexCast v1325
  let c0_573 : Index := 0#32
  ![v1326.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_623 : BitVec 32 := 2#32
  let v1462 : BitVec 32 := Scalar.shrsi v2 c2_i32_623
  let c1_i32_624 : BitVec 32 := 1#32
  let v1463 : BitVec 32 := Scalar.andi v1462 c1_i32_624
  let c512_i32 : BitVec 32 := 512#32
  let v1464 : BitVec 32 := Scalar.muli v1463 c512_i32
  let v1465 : Index := Scalar.indexCast v1464
  let c0_625 : Index := 0#32
  ![v1465.toNat, 0]
def k0_off9 (d0 : Dev nD) : Fin 2 → Nat :=
  let c1_i32_626 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_623 : BitVec 32 := 2#32
  let v1462 : BitVec 32 := Scalar.shrsi v2 c2_i32_623
  let c1_i32_624 : BitVec 32 := 1#32
  let v1463 : BitVec 32 := Scalar.andi v1462 c1_i32_624
  let v1467 : BitVec 32 := Scalar.subi c1_i32_626 v1463
  let c512_i32_627 : BitVec 32 := 512#32
  let v1468 : BitVec 32 := Scalar.muli v1467 c512_i32_627
  let v1469 : Index := Scalar.indexCast v1468
  let c0_628 : Index := 0#32
  ![v1469.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_632 : BitVec 32 := 1#32
  let v1480 : BitVec 32 := Scalar.shrsi v2 c1_i32_632
  let c256_i32_633 : BitVec 32 := 256#32
  let v1481 : BitVec 32 := Scalar.muli v1480 c256_i32_633
  let v1482 : Index := Scalar.indexCast v1481
  let c0_634 : Index := 0#32
  ![v1482.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_632 : BitVec 32 := 1#32
  let v1480 : BitVec 32 := Scalar.shrsi v2 c1_i32_632
  let c1_i32_635 : BitVec 32 := 1#32
  let v1484 : BitVec 32 := Scalar.xori v1480 c1_i32_635
  let c256_i32_636 : BitVec 32 := 256#32
  let v1485 : BitVec 32 := Scalar.muli v1484 c256_i32_636
  let v1486 : Index := Scalar.indexCast v1485
  let c0_637 : Index := 0#32
  ![v1486.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_644 : BitVec 32 := 1#32
  let v1501 : BitVec 32 := Scalar.xori v2 c1_i32_644
  let c128_i32_645 : BitVec 32 := 128#32
  let v1502 : BitVec 32 := Scalar.muli v1501 c128_i32_645
  let v1503 : Index := Scalar.indexCast v1502
  let c0_646 : Index := 0#32
  ![v1503.toNat, 0]
abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x64 : Shape := ⟨2, ![1024, 64]⟩

abbrev nBuf : Space → Nat
  | .hbm => 2
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Stage.lean ====
/-
# The compare-exchange stages of the kernel, and its payloads as chains of them

Every value the kernel computes is a chain of ONE operation: a compare-exchange stage of a bitonic network over the
rows of a block, `cmpEx`. A row whose distance bit is clear meets the row `j` below it, any other row the row `j` above
it (the two rotations), and keeps the smaller or the larger of the two by a direction mask. This module names the stage
and the chains of stages of the three phases (a device's own sort, the merges of 256 and of 512 rows, the closing sort
of 128 rows), and shows that the pure values of the printed kernel are these chains.
-/
module

public import proofs.«01_k».proof.Proof.Gen.KernelIdeal
public import proofs.«01_k».proof.Proof.Gen.KernelIdeal.Skeleton
public import Idealize.ShloMosaic.Lib.Pipeline.Value

@[expose] public section

noncomputable section

namespace Cert.SortProof

open Cert.KernelIdeal Cert.KernelIdeal.Gen Idealize.ShloMosaic

variable {F : FTy → Type} [FloatOps F]

/-- A block of `n` rows of 64 columns. -/
abbrev Blk (n : ℕ) : Shape := ⟨2, ![n, 64]⟩

/-- The rows whose bit `j` is clear: those that meet the row `j` below them. -/
def lowRow {n : ℕ} (I : IVec (Blk n) 32) (j : BitVec 32) : IVec (Blk n) 1 :=
  cmpi .eq (andi I (broadcast (Blk n) j)) (broadcast (Blk n) 0#32)

/-- What every row meets at distance `j` (`a` is the block's length less `j`). -/
def meets {n : ℕ} (hr : (Blk n).Rotates 0 none) (I : IVec (Blk n) 32) (j a : BitVec 32) (v : FVec F (Blk n) .f32) :
    FVec F (Blk n) .f32 :=
  select (lowRow I j) (dynamicRotate 0 a none v hr) (dynamicRotate 0 j none v hr)

/-- The mask of the rows that keep the smaller of the two, in a stage of direction mask `D`. -/
def keepMin {n : ℕ} (I : IVec (Blk n) 32) (D : IVec (Blk n) 1) (j : BitVec 32) : IVec (Blk n) 1 :=
  xori (xori (lowRow I j) D) (constantI (Blk n) 1 1#1)

/-- One compare-exchange stage at distance `j` with the direction mask `D`. -/
def cmpEx {n : ℕ} (hr : (Blk n).Rotates 0 none) (I : IVec (Blk n) 32) (D : IVec (Blk n) 1) (j a : BitVec 32)
    (v : FVec F (Blk n) .f32) : FVec F (Blk n) .f32 :=
  select (keepMin I D j) (minimumf v (meets hr I j a v)) (maximumf v (meets hr I j a v))

/-- The row numbers of a block of 128, 256 and 512 rows. -/
abbrev I₁ : IVec S128x64 32 := iota .tc S128x64 32 [0] iota_S128x64_d0_w32
abbrev I₂ : IVec S256x64 32 := iota .tc S256x64 32 [0] iota_S256x64_d0_w32
abbrev I₅ : IVec S512x64 32 := iota .tc S512x64 32 [0] iota_S512x64_d0_w32

/-- The direction mask of the own sort's stages towards sorted runs of length `k`, turned over where `f` is set. -/
def runDir (f : BitVec 1) (k : BitVec 32) : IVec S128x64 1 := xori (lowRow I₁ k) (broadcast S128x64 f)

/-- A direction mask that is the same for every row. -/
def dir₁ (b : BitVec 1) : IVec S128x64 1 := broadcastTo S128x64 (broadcast S128x64 b) broadcasts_S128x64_S128x64
def dir₂ (b : BitVec 1) : IVec S256x64 1 := broadcastTo S256x64 (broadcast S256x64 b) broadcasts_S256x64_S256x64
def dir₅ (b : BitVec 1) : IVec S512x64 1 := broadcastTo S512x64 (broadcast S512x64 b) broadcasts_S512x64_S512x64

/-- A stage of the own sort, of a merge of 256 rows, of a merge of 512 rows, of the closing sort. -/
def own (f : BitVec 1) (k j a : BitVec 32) : FVec F S128x64 .f32 → FVec F S128x64 .f32 :=
  cmpEx rotates_S128x64_d0 I₁ (runDir f k) j a
def two (b : BitVec 1) (j a : BitVec 32) : FVec F S256x64 .f32 → FVec F S256x64 .f32 :=
  cmpEx rotates_S256x64_d0 I₂ (dir₂ b) j a
def five (b : BitVec 1) (j a : BitVec 32) : FVec F S512x64 .f32 → FVec F S512x64 .f32 :=
  cmpEx rotates_S512x64_d0 I₅ (dir₅ b) j a
def last (j a : BitVec 32) : FVec F S128x64 .f32 → FVec F S128x64 .f32 :=
  cmpEx rotates_S128x64_d0 I₁ (dir₁ 1#1) j a

/-! ## The chains -/

/-- The own sort's stages that make sorted runs of length 8 of the block `v`. -/
def own8 (f : BitVec 1) (v : FVec F S128x64 .f32) : FVec F S128x64 .f32 :=
  own f 8#32 1#32 127#32 (own f 8#32 2#32 126#32 (own f 8#32 4#32 124#32
    (own f 4#32 1#32 127#32 (own f 4#32 2#32 126#32 (own f 2#32 1#32 127#32 v)))))
/-- … those that turn them into runs of length 16, 32, 64, 128. -/
def own16 (f : BitVec 1) (v : FVec F S128x64 .f32) : FVec F S128x64 .f32 :=
  own f 16#32 1#32 127#32 (own f 16#32 2#32 126#32 (own f 16#32 4#32 124#32 (own f 16#32 8#32 120#32 v)))
def own32 (f : BitVec 1) (v : FVec F S128x64 .f32) : FVec F S128x64 .f32 :=
  own f 32#32 1#32 127#32 (own f 32#32 2#32 126#32 (own f 32#32 4#32 124#32 (own f 32#32 8#32 120#32
    (own f 32#32 16#32 112#32 v))))
def own64 (f : BitVec 1) (v : FVec F S128x64 .f32) : FVec F S128x64 .f32 :=
  own f 64#32 1#32 127#32 (own f 64#32 2#32 126#32 (own f 64#32 4#32 124#32 (own f 64#32 8#32 120#32
    (own f 64#32 16#32 112#32 (own f 64#32 32#32 96#32 v)))))
def own128 (f : BitVec 1) (v : FVec F S128x64 .f32) : FVec F S128x64 .f32 :=
  own f 128#32 1#32 127#32 (own f 128#32 2#32 126#32 (own f 128#32 4#32 124#32 (own f 128#32 8#32 120#32
    (own f 128#32 16#32 112#32 (own f 128#32 32#32 96#32 (own f 128#32 64#32 64#32 v))))))
/-- A device's whole own sort. -/
def ownSort (f : BitVec 1) (v : FVec F S128x64 .f32) : FVec F S128x64 .f32 :=
  own128 f (own64 f (own32 f (own16 f (own8 f v))))
/-- The merge of 256 rows. -/
def merge₂ (b : BitVec 1) (v : FVec F S256x64 .f32) : FVec F S256x64 .f32 :=
  two b 1#32 255#32 (two b 2#32 254#32 (two b 4#32 252#32 (two b 8#32 248#32 (two b 16#32 240#32
    (two b 32#32 224#32 (two b 64#32 192#32 (two b 128#32 128#32 v)))))))
/-- The merge of 512 rows. -/
def merge₅ (b : BitVec 1) (v : FVec F S512x64 .f32) : FVec F S512x64 .f32 :=
  five b 1#32 511#32 (five b 2#32 510#32 (five b 4#32 508#32 (five b 8#32 504#32 (five b 16#32 496#32
    (five b 32#32 480#32 (five b 64#32 448#32 (five b 128#32 384#32 (five b 256#32 256#32 v))))))))
/-- The closing sort of a device's 128 rows. -/
def closing (v : FVec F S128x64 .f32) : FVec F S128x64 .f32 :=
  last 1#32 127#32 (last 2#32 126#32 (last 4#32 124#32 (last 8#32 120#32 (last 16#32 112#32
    (last 32#32 96#32 (last 64#32 64#32 v))))))

/-! ## The own sort's parts of the printed kernel -/

section Parts
variable (a0 : Memref sig .tc .vmem S128x64 .f32) (h0 : a0.IsWhole) (a1 : Memref sig .tc .vmem S128x64 .f32)
  (h1 : a1.IsWhole) (a2 : Memref sig .tc .vmem S1024x64 .f32) (h2 : a2.IsWhole)
  (a3 : Memref sig .tc .vmem S1024x64 .f32) (h3 : a3.IsWhole) (a4 a5 : DmaSems sig S7)

/-- The first stage, and what the second needs, as part 2 returns them. -/
theorem first_eq (w : BitVec 32) (v : FVec F S128x64 .f32) :
    k0_pay1 w v = own (Scalar.cmpi .eq (Scalar.andi w 1#32) 1#32) 2#32 1#32 127#32 v := by
  have h : k0_pay1 w v = own (Scalar.cmpi .eq (Scalar.andi w 1#32) 1#32) 2#32 1#32 127#32
      (shapeCast S128x64 v shapeCasts_S128x64_S128x64) := rfl
  rw [h, shapeCast_self]
theorem first_meets (w : BitVec 32) (v : FVec F S128x64 .f32) :
    k0_pay3 w v = meets rotates_S128x64_d0 I₁ 2#32 126#32 (k0_pay1 w v) := rfl
theorem first_mask (w : BitVec 32) :
    k0_pay4 w = xori (lowRow I₁ 2#32) (runDir (Scalar.cmpi .eq (Scalar.andi w 1#32) 1#32) 4#32) := rfl

theorem part3_eq (f : BitVec 1) (v : FVec F S128x64 .f32) :
    k0_part3 a0 h0 a1 h1 a2 h2 a3 h3 a4 a5 f I₁ v (meets rotates_S128x64_d0 I₁ 2#32 126#32 v)
      (xori (lowRow I₁ 2#32) (runDir f 4#32)) =
      pure ⟨own f 8#32 4#32 124#32 (own f 4#32 1#32 127#32 (own f 4#32 2#32 126#32 v)),
        andi I₁ (broadcast S128x64 8#32), broadcast S128x64 0#32⟩ := rfl

theorem part4_eq (f : BitVec 1) (v : FVec F S128x64 .f32) :
    k0_part4 a0 h0 a1 h1 a2 h2 a3 h3 a4 a5 f I₁ v (andi I₁ (broadcast S128x64 8#32)) (broadcast S128x64 0#32) =
      pure ⟨own f 8#32 1#32 127#32 (own f 8#32 2#32 126#32 v), runDir f 16#32, lowRow I₁ 8#32, 120#32⟩ := rfl

theorem part5_eq (f : BitVec 1) (v : FVec F S128x64 .f32) :
    k0_part5 a0 h0 a1 h1 a2 h2 a3 h3 a4 a5 f I₁ v (runDir f 16#32) (lowRow I₁ 8#32) 120#32 =
      pure (own f 16#32 2#32 126#32 (own f 16#32 4#32 124#32 (own f 16#32 8#32 120#32 v))) := rfl

theorem part6_eq (f : BitVec 1) (v : FVec F S128x64 .f32) :
    k0_part6 a0 h0 a1 h1 a2 h2 a3 h3 a4 a5 f I₁ v =
      pure ⟨own f 32#32 16#32 112#32 (own f 16#32 1#32 127#32 v), runDir f 32#32,
        broadcast S128x64 8#32⟩ := rfl

theorem part7_eq (f : BitVec 1) (v : FVec F S128x64 .f32) :
    k0_part7 a0 h0 a1 h1 a2 h2 a3 h3 a4 a5 f I₁ v (runDir f 32#32) (broadcast S128x64 8#32) =
      pure ⟨own f 32#32 4#32 124#32 (own f 32#32 8#32 120#32 v),
        meets rotates_S128x64_d0 I₁ 2#32 126#32 (own f 32#32 4#32 124#32 (own f 32#32 8#32 120#32 v)),
        xori (lowRow I₁ 2#32) (runDir f 32#32)⟩ := rfl

theorem part8_eq (f : BitVec 1) (v : FVec F S128x64 .f32) :
    k0_part8 a0 h0 a1 h1 a2 h2 a3 h3 a4 a5 f I₁ v (meets rotates_S128x64_d0 I₁ 2#32 126#32 v)
      (xori (lowRow I₁ 2#32) (runDir f 32#32)) =
      pure ⟨own f 64#32 32#32 96#32 (own f 32#32 1#32 127#32 (own f 32#32 2#32 126#32 v)),
        andi I₁ (broadcast S128x64 64#32), broadcast S128x64 0#32⟩ := rfl

theorem part9_eq (f : BitVec 1) (v : FVec F S128x64 .f32) :
    k0_part9 a0 h0 a1 h1 a2 h2 a3 h3 a4 a5 f I₁ v (andi I₁ (broadcast S128x64 64#32)) (broadcast S128x64 0#32) =
      pure ⟨own f 64#32 8#32 120#32 (own f 64#32 16#32 112#32 v), runDir f 64#32, lowRow I₁ 4#32, 124#32⟩ := rfl

theorem part10_eq (f : BitVec 1) (v : FVec F S128x64 .f32) :
    k0_part10 a0 h0 a1 h1 a2 h2 a3 h3 a4 a5 f I₁ v (runDir f 64#32) (lowRow I₁ 4#32) 124#32 =
      pure (own f 64#32 1#32 127#32 (own f 64#32 2#32 126#32 (own f 64#32 4#32 124#32 v))) := rfl

theorem part11_eq (f : BitVec 1) (v : FVec F S128x64 .f32) :
    k0_part11 a0 h0 a1 h1 a2 h2 a3 h3 a4 a5 f I₁ v =
      pure ⟨own f 128#32 32#32 96#32 (own f 128#32 64#32 64#32 v), runDir f 128#32,
        broadcast S128x64 16#32⟩ := rfl

theorem part12_eq (f : BitVec 1) (v : FVec F S128x64 .f32) :
    k0_part12 a0 h0 a1 h1 a2 h2 a3 h3 a4 a5 f I₁ v (runDir f 128#32) (broadcast S128x64 16#32) =
      pure ⟨own f 128#32 8#32 120#32 (own f 128#32 16#32 112#32 v),
        meets rotates_S128x64_d0 I₁ 4#32 124#32 (own f 128#32 8#32 120#32 (own f 128#32 16#32 112#32 v)),
        xori (lowRow I₁ 4#32) (runDir f 128#32)⟩ := rfl

/-- The last part of the own sort, and what is stored of it. -/
theorem own_last (f : BitVec 1) (v : FVec F S128x64 .f32) :
    k0_pay33 f I₁ v (meets rotates_S128x64_d0 I₁ 4#32 124#32 v) (xori (lowRow I₁ 4#32) (runDir f 128#32)) =
      own f 128#32 1#32 127#32 (own f 128#32 2#32 126#32 (own f 128#32 4#32 124#32 v)) := rfl
theorem stored₁ (v : FVec F S128x64 .f32) : k0_pay34 v = v :=
  shapeCast_self _ _

/-! ## The merges of 256 rows -/

theorem part18_eq (b : BitVec 1) (v : FVec F S256x64 .f32) :
    k0_part18 a0 h0 a1 h1 a2 h2 a3 h3 a4 a5 v I₂ b k0_pay35 128#32 =
      pure ⟨two b 32#32 224#32 (two b 64#32 192#32 (two b 128#32 128#32 v)), lowRow I₂ 16#32,
        dynamicRotate 0 240#32 none (two b 32#32 224#32 (two b 64#32 192#32 (two b 128#32 128#32 v)))
          rotates_S256x64_d0,
        dynamicRotate 0 16#32 none (two b 32#32 224#32 (two b 64#32 192#32 (two b 128#32 128#32 v)))
          rotates_S256x64_d0⟩ := rfl

theorem part19_eq (b : BitVec 1) (v : FVec F S256x64 .f32) :
    k0_part19 a0 h0 a1 h1 a2 h2 a3 h3 a4 a5 I₂ b v (lowRow I₂ 16#32) (dynamicRotate 0 240#32 none v rotates_S256x64_d0)
        (dynamicRotate 0 16#32 none v rotates_S256x64_d0) =
      pure ⟨two b 4#32 252#32 (two b 8#32 248#32 (two b 16#32 240#32 v)), lowRow I₂ 2#32,
        meets rotates_S256x64_d0 I₂ 2#32 254#32 (two b 4#32 252#32 (two b 8#32 248#32 (two b 16#32 240#32 v))),
        dir₂ b⟩ := rfl

theorem last_a (b : BitVec 1) (v : FVec F S256x64 .f32) :
    k0_pay44 I₂ b v (lowRow I₂ 2#32) (meets rotates_S256x64_d0 I₂ 2#32 254#32 v) (dir₂ b) =
      two b 1#32 255#32 (two b 2#32 254#32 v) := by
  have h : k0_pay44 I₂ b v (lowRow I₂ 2#32) (meets rotates_S256x64_d0 I₂ 2#32 254#32 v) (dir₂ b) =
      shapeCast S256x64 (two b 1#32 255#32 (two b 2#32 254#32 v))
        shapeCasts_S256x64_S256x64 := rfl
  rw [h, shapeCast_self]

theorem part22_eq (b : BitVec 1) (v : FVec F S256x64 .f32) :
    k0_part22 a0 h0 a1 h1 a2 h2 a3 h3 a4 a5 I₂ b v (lowRow I₂ 32#32) (dynamicRotate 0 224#32 none v rotates_S256x64_d0)
        32#32 =
      pure ⟨two b 8#32 248#32 (two b 16#32 240#32 (two b 32#32 224#32 v)), lowRow I₂ 4#32,
        meets rotates_S256x64_d0 I₂ 4#32 252#32 (two b 8#32 248#32 (two b 16#32 240#32 (two b 32#32 224#32 v))),
        broadcast S256x64 b⟩ := rfl

theorem last_b (b : BitVec 1) (v : FVec F S256x64 .f32) :
    k0_pay52 I₂ b v (lowRow I₂ 4#32) (meets rotates_S256x64_d0 I₂ 4#32 252#32 v) (broadcast S256x64 b) =
      two b 1#32 255#32 (two b 2#32 254#32 (two b 4#32 252#32 v)) := by
  have h : k0_pay52 I₂ b v (lowRow I₂ 4#32) (meets rotates_S256x64_d0 I₂ 4#32 252#32 v) (broadcast S256x64 b) =
      shapeCast S256x64 (two b 1#32 255#32 (two b 2#32 254#32 (two b 4#32 252#32 v)))
        shapeCasts_S256x64_S256x64 := rfl
  rw [h, shapeCast_self]

/-- The bit that gives the direction of a merge, from the word it is computed of. -/
abbrev bitOf (w : BitVec 32) : BitVec 1 := Scalar.cmpi .eq (Scalar.andi w 1#32) 0#32

theorem begin_b (w : BitVec 32) (v : FVec F S256x64 .f32) :
    k0_pay45 w v = two (bitOf (Scalar.shrsi w 1#32)) 64#32 192#32
      (two (bitOf (Scalar.shrsi w 1#32)) 128#32 128#32 v) := rfl
theorem begin_b_low : k0_pay46 = lowRow I₂ 32#32 := rfl
theorem begin_b_rot (w : BitVec 32) (v : FVec F S256x64 .f32) :
    k0_pay47 w v = dynamicRotate 0 224#32 none (k0_pay45 w v) rotates_S256x64_d0 := rfl

theorem begin_c_meets (v : FVec F S256x64 .f32) :
    k0_pay62 v = meets rotates_S256x64_d0 I₂ 128#32 128#32 v := rfl
theorem begin_c_mask (w : BitVec 32) :
    k0_pay63 w = keepMin I₂ (dir₂ (bitOf (Scalar.shrsi (Scalar.xori w 4#32) 1#32))) 128#32 := rfl

theorem part28_eq (b : BitVec 1) (v : FVec F S256x64 .f32) :
    k0_part28 a0 h0 a1 h1 a2 h2 a3 h3 a4 a5 v I₂ b (meets rotates_S256x64_d0 I₂ 128#32 128#32 v)
        (keepMin I₂ (dir₂ b) 128#32) =
      pure (two b 16#32 240#32 (two b 32#32 224#32 (two b 64#32 192#32 (two b 128#32 128#32 v)))) := rfl

theorem part29_eq (b : BitVec 1) (v : FVec F S256x64 .f32) :
    k0_part29 a0 h0 a1 h1 a2 h2 a3 h3 a4 a5 I₂ b v =
      pure ⟨two b 2#32 254#32 (two b 4#32 252#32 (two b 8#32 248#32 v)), andi I₂ (broadcast S256x64 1#32)⟩ := rfl

theorem last_c (b : BitVec 1) (v : FVec F S256x64 .f32) :
    k0_pay67 b v (andi I₂ (broadcast S256x64 1#32)) = two b 1#32 255#32 v := by
  have h : k0_pay67 b v (andi I₂ (broadcast S256x64 1#32)) =
      shapeCast S256x64 (two b 1#32 255#32 v)
        shapeCasts_S256x64_S256x64 := rfl
  rw [h, shapeCast_self]

theorem part31_eq (w : BitVec 32) (v : FVec F S256x64 .f32) :
    k0_part31 a0 h0 a1 h1 a2 h2 a3 h3 a4 a5 v I₂ w =
      pure ⟨bitOf w, keepMin I₂ (dir₂ (bitOf w)) 32#32,
        minimumf (two (bitOf w) 64#32 192#32 (two (bitOf w) 128#32 128#32 v))
          (meets rotates_S256x64_d0 I₂ 32#32 224#32 (two (bitOf w) 64#32 192#32 (two (bitOf w) 128#32 128#32 v))),
        maximumf (two (bitOf w) 64#32 192#32 (two (bitOf w) 128#32 128#32 v))
          (meets rotates_S256x64_d0 I₂ 32#32 224#32 (two (bitOf w) 64#32 192#32 (two (bitOf w) 128#32 128#32 v)))⟩ :=
  rfl

theorem part32_eq (b : BitVec 1) (v : FVec F S256x64 .f32) :
    k0_part32 a0 h0 a1 h1 a2 h2 a3 h3 a4 a5 I₂ b (keepMin I₂ (dir₂ b) 32#32)
        (minimumf v (meets rotates_S256x64_d0 I₂ 32#32 224#32 v))
        (maximumf v (meets rotates_S256x64_d0 I₂ 32#32 224#32 v)) =
      pure ⟨two b 4#32 252#32 (two b 8#32 248#32 (two b 16#32 240#32 (two b 32#32 224#32 v))),
        broadcast S256x64 2#32⟩ := rfl

theorem last_d (b : BitVec 1) (v : FVec F S256x64 .f32) :
    k0_pay76 I₂ b v (broadcast S256x64 2#32) = two b 1#32 255#32 (two b 2#32 254#32 v) := by
  have h : k0_pay76 I₂ b v (broadcast S256x64 2#32) =
      shapeCast S256x64 (two b 1#32 255#32 (two b 2#32 254#32 v))
        shapeCasts_S256x64_S256x64 := rfl
  rw [h, shapeCast_self]

/-! ## The merges of 512 rows -/

theorem part24_eq (w : BitVec 32) (v : FVec F S512x64 .f32) :
    k0_part24 a0 h0 a1 h1 a2 h2 a3 h3 a4 a5 w v I₅ 2#32 =
      pure ⟨bitOf (Scalar.shrsi w 2#32),
        five (bitOf (Scalar.shrsi w 2#32)) 128#32 384#32 (five (bitOf (Scalar.shrsi w 2#32)) 256#32 256#32 v),
        meets rotates_S512x64_d0 I₅ 64#32 448#32
          (five (bitOf (Scalar.shrsi w 2#32)) 128#32 384#32 (five (bitOf (Scalar.shrsi w 2#32)) 256#32 256#32 v)),
        keepMin I₅ (dir₅ (bitOf (Scalar.shrsi w 2#32))) 64#32,
        minimumf
          (five (bitOf (Scalar.shrsi w 2#32)) 128#32 384#32 (five (bitOf (Scalar.shrsi w 2#32)) 256#32 256#32 v))
          (meets rotates_S512x64_d0 I₅ 64#32 448#32
            (five (bitOf (Scalar.shrsi w 2#32)) 128#32 384#32
              (five (bitOf (Scalar.shrsi w 2#32)) 256#32 256#32 v)))⟩ := rfl

theorem part25_eq (b : BitVec 1) (v : FVec F S512x64 .f32) :
    k0_part25 a0 h0 a1 h1 a2 h2 a3 h3 a4 a5 I₅ b v (meets rotates_S512x64_d0 I₅ 64#32 448#32 v)
        (keepMin I₅ (dir₅ b) 64#32) (minimumf v (meets rotates_S512x64_d0 I₅ 64#32 448#32 v)) =
      pure ⟨five b 8#32 504#32 (five b 16#32 496#32 (five b 32#32 480#32 (five b 64#32 448#32 v))), 4#32⟩ := rfl

theorem last_5a (b : BitVec 1) (v : FVec F S512x64 .f32) :
    k0_pay59 I₅ b v 4#32 = five b 1#32 511#32 (five b 2#32 510#32 (five b 4#32 508#32 v)) := rfl
theorem stored₅ (v : FVec F S512x64 .f32) : k0_pay60 v = v :=
  shapeCast_self _ _

theorem part34_eq (b : BitVec 1) (v : FVec F S512x64 .f32) :
    k0_part34 a0 h0 a1 h1 a2 h2 a3 h3 a4 a5 v I₅ b k0_pay77 =
      pure ⟨five b 64#32 448#32 (five b 128#32 384#32 (five b 256#32 256#32 v)),
        andi I₅ (broadcast S512x64 32#32), broadcast S512x64 0#32⟩ := rfl

theorem part35_eq (b : BitVec 1) (v : FVec F S512x64 .f32) :
    k0_part35 a0 h0 a1 h1 a2 h2 a3 h3 a4 a5 I₅ b v (andi I₅ (broadcast S512x64 32#32)) (broadcast S512x64 0#32) =
      pure ⟨five b 8#32 504#32 (five b 16#32 496#32 (five b 32#32 480#32 v)), lowRow I₅ 4#32,
        dynamicRotate 0 508#32 none (five b 8#32 504#32 (five b 16#32 496#32 (five b 32#32 480#32 v)))
          rotates_S512x64_d0⟩ := rfl

theorem last_5b (b : BitVec 1) (v : FVec F S512x64 .f32) :
    k0_pay84 I₅ b v (lowRow I₅ 4#32) (dynamicRotate 0 508#32 none v rotates_S512x64_d0) =
      five b 1#32 511#32 (five b 2#32 510#32 (five b 4#32 508#32 v)) := by
  have h : k0_pay84 I₅ b v (lowRow I₅ 4#32) (dynamicRotate 0 508#32 none v rotates_S512x64_d0) =
      shapeCast S512x64 (five b 1#32 511#32 (five b 2#32 510#32 (five b 4#32 508#32 v)))
        shapeCasts_S512x64_S512x64 := rfl
  rw [h, shapeCast_self]

/-! ## The stages between the devices, and the closing sort -/

theorem half_eq (w : BitVec 32) (u v : FVec F S512x64 .f32) :
    k0_pay85 w u v = Scalar.select (Scalar.cmpi .eq w 0#32) (minimumf u v) (maximumf u v) :=
  shapeCast_self _ _
theorem quarter_eq (w : BitVec 32) (u v : FVec F S256x64 .f32) :
    k0_pay86 w u v = Scalar.select (bitOf (Scalar.shrsi w 1#32)) (minimumf u v) (maximumf u v) :=
  shapeCast_self _ _

theorem closing_first (w : BitVec 32) (u v : FVec F S128x64 .f32) :
    k0_pay87 w I₁ u v = last 32#32 96#32 (last 64#32 64#32
      (Scalar.select (bitOf w) (minimumf u v) (maximumf u v))) := rfl
theorem closing_low : k0_pay88 I₁ = lowRow I₁ 16#32 := rfl
theorem closing_rot (w : BitVec 32) (u v : FVec F S128x64 .f32) :
    k0_pay89 w I₁ u v = dynamicRotate 0 112#32 none (k0_pay87 w I₁ u v) rotates_S128x64_d0 := rfl

theorem part39_eq (v : FVec F S128x64 .f32) :
    k0_part39 a0 h0 a1 h1 a2 h2 a3 h3 a4 a5 I₁ v (lowRow I₁ 16#32)
        (dynamicRotate 0 112#32 none v rotates_S128x64_d0) =
      pure ⟨last 4#32 124#32 (last 8#32 120#32 (last 16#32 112#32 v)), lowRow I₁ 2#32,
        dynamicRotate 0 126#32 none (last 4#32 124#32 (last 8#32 120#32 (last 16#32 112#32 v)))
          rotates_S128x64_d0⟩ := rfl

theorem closing_last (v : FVec F S128x64 .f32) :
    k0_pay93 I₁ v (lowRow I₁ 2#32) (dynamicRotate 0 126#32 none v rotates_S128x64_d0) =
      last 1#32 127#32 (last 2#32 126#32 v) := rfl

end Parts
end Cert.SortProof
end
-- ==== Proof.Contents.lean ====
/-
# What the buffers hold

Every device's two scratch buffers hold, wherever they hold anything, rows of a few arrays of 1024 rows that do not
depend on the device: the gathered array of the own-sorted blocks, that array with its runs of 256 rows merged, with its
runs of 512 rows merged, and the three arrays after the stages at distance 512, 256 and 128. This module defines those
arrays from the devices' inputs, and gives the two facts about buffers the run needs: a load of rows on which a buffer
agrees with an array reads those rows of the array, and a store of an array's rows makes the buffer agree with it there
and changes nothing elsewhere.
-/
module

public import proofs.«01_k».proof.Proof.Stage

@[expose] public section

noncomputable section

namespace Cert.SortProof

open Cert.KernelIdeal Cert.KernelIdeal.Gen Idealize.ShloMosaic

variable {F : FTy → Type} [FloatOps F]

/-- The index of row `r` (counted modulo the length) and column `q`. -/
def at2 {n : ℕ} (hn : 0 < n) (r : ℕ) (q : Fin 64) : (Blk n).Idx := fun a => match a with
  | ⟨0, _⟩ => ⟨r % n, Nat.mod_lt _ hn⟩
  | ⟨1, _⟩ => q

/-- The index of row `r` and column `q` of a whole array. -/
abbrev atW (r : ℕ) (q : Fin 64) : S1024x64.Idx := at2 (n := 1024) (by decide) r q

/-- The row and the column of an index. -/
abbrev rowOf {n : ℕ} (i : (Blk n).Idx) : ℕ := (i (0 : Fin 2)).val
abbrev colOf {n : ℕ} (i : (Blk n).Idx) : Fin 64 := i (1 : Fin 2)

theorem rowOf_lt {n : ℕ} (i : (Blk n).Idx) : rowOf i < n := (i (0 : Fin 2)).isLt

theorem idx_ext {n : ℕ} {i j : (Blk n).Idx} (h0 : rowOf i = rowOf j) (h1 : (colOf i).val = (colOf j).val) : i = j := by
  funext a
  match a with
  | ⟨0, _⟩ => exact Fin.ext h0
  | ⟨1, _⟩ => exact Fin.ext h1

theorem at2_self {n : ℕ} (hn : 0 < n) (i : (Blk n).Idx) : at2 hn (rowOf i) (colOf i) = i :=
  idx_ext (Nat.mod_eq_of_lt (rowOf_lt i)) rfl

/-- Rows `s`, `s + 1`, … of an array, as a block of `n` rows. -/
def rowsOf (n s : ℕ) (A : FVec F S1024x64 .f32) : FVec F (Blk n) .f32 := fun j => A (atW (s + rowOf j) (colOf j))

/-- The array whose `b`-th run of `n` rows is the block `B b`. -/
def glue (n : ℕ) (hn : 0 < n) (B : ℕ → FVec F (Blk n) .f32) : FVec F S1024x64 .f32 := fun i =>
  B (rowOf i / n) (at2 hn (rowOf i) (colOf i))

/-- The buffer's contents `f` agree with the array `A` on the `n` rows from row `s`. -/
def Agree (A f : FVec F S1024x64 .f32) (s n : ℕ) : Prop := ∀ i : S1024x64.Idx, s ≤ rowOf i → rowOf i < s + n → f i = A i

theorem glue_rows (n : ℕ) (hn : 0 < n) (B : ℕ → FVec F (Blk n) .f32) (b : ℕ) (hb : n * b + n ≤ 1024) :
    rowsOf n (n * b) (glue n hn B) = B b := by
  funext j
  have hj := rowOf_lt j
  have hr : rowOf (atW (n * b + rowOf j) (colOf j)) = n * b + rowOf j := Nat.mod_eq_of_lt (by omega)
  unfold rowsOf glue
  rw [hr]
  have hd : (n * b + rowOf j) / n = b := by
    rw [Nat.mul_add_div hn, Nat.div_eq_of_lt hj, Nat.add_zero]
  rw [hd]
  congr 1
  refine idx_ext ?_ rfl
  show (n * b + rowOf j) % n = rowOf j
  rw [Nat.mul_add_mod, Nat.mod_eq_of_lt hj]

theorem Agree.join {A f : FVec F S1024x64 .f32} {s n n' : ℕ} (h : Agree A f s n) (h' : Agree A f (s + n) n') :
    Agree A f s (n + n') := fun i h1 h2 => by
  by_cases hc : rowOf i < s + n
  · exact h i h1 hc
  · exact h' i (by omega) (by omega)

theorem Agree.sub {A f : FVec F S1024x64 .f32} {s n s' n' : ℕ} (h : Agree A f s n) (h1 : s ≤ s') (h2 : s' + n' ≤ s + n) :
    Agree A f s' n' := fun i a b => h i (by omega) (by omega)

/-! ## Loads and stores of rows of the two scratch buffers -/

abbrev gM : Memref sig .tc .vmem S1024x64 .f32 := Memref.whole cc0_scratch0
abbrev eM : Memref sig .tc .vmem S1024x64 .f32 := Memref.whole cc0_scratch1

theorem emb_row {off size : Fin 2 → ℕ} {s : ℕ} (hoff : off = ![s, 0]) (inb : ∀ a : Fin 2, off a + size a ≤ S1024x64.size a)
    (j : (Rect.unit (s := S1024x64) off size inb).shape.Idx) :
    rowOf (n := 1024) ((Rect.unit (s := S1024x64) off size inb).emb j) = s + (j (0 : Fin 2)).val := by
  subst hoff; show s + 1 * (j (0 : Fin 2)).val = _; rw [Nat.one_mul]
theorem emb_col {off size : Fin 2 → ℕ} {s : ℕ} (hoff : off = ![s, 0]) (inb : ∀ a : Fin 2, off a + size a ≤ S1024x64.size a)
    (j : (Rect.unit (s := S1024x64) off size inb).shape.Idx) :
    (colOf (n := 1024) ((Rect.unit (s := S1024x64) off size inb).emb j)).val = (j (1 : Fin 2)).val := by
  subst hoff; show 0 + 1 * (j (1 : Fin 2)).val = _; rw [Nat.one_mul, Nat.zero_add]

theorem read_gather {n s : ℕ} {off : Fin 2 → ℕ} (hoff : off = ![s, 0])
    (inb : ∀ a : Fin 2, off a + ![n, 64] a ≤ S1024x64.size a) {A f : FVec F S1024x64 .f32} (h : Agree A f s n) :
    gM.view.readAt (Elt F) (Rect.unit (s := S1024x64) off ![n, 64] inb).toLoadRect f = rowsOf n s A := by
  funext j
  have e := emb_row hoff inb j
  have e' := emb_col hoff inb j
  have hn : s + n ≤ 1024 := by have := inb 0; subst hoff; exact this
  have hj : (j (0 : Fin 2)).val < n := (j (0 : Fin 2)).isLt
  have hr := h ((Rect.unit (s := S1024x64) off ![n, 64] inb).emb j) (by rw [e]; omega) (by rw [e]; omega)
  refine Eq.trans ?_ (hr.trans ?_)
  · rfl
  · unfold rowsOf
    congr 1
    refine idx_ext (n := 1024) (e.trans ?_) e'
    exact (Nat.mod_eq_of_lt (show s + (j (0 : Fin 2)).val < 1024 by omega)).symm

theorem read_merge {n s : ℕ} {off : Fin 2 → ℕ} (hoff : off = ![s, 0])
    (inb : ∀ a : Fin 2, off a + ![n, 64] a ≤ S1024x64.size a) {A f : FVec F S1024x64 .f32} (h : Agree A f s n) :
    eM.view.readAt (Elt F) (Rect.unit (s := S1024x64) off ![n, 64] inb).toLoadRect f = rowsOf n s A := by
  refine Eq.trans ?_ (read_gather hoff inb h)
  rfl

theorem write_in {n s : ℕ} {off : Fin 2 → ℕ} (hoff : off = ![s, 0])
    (inb : ∀ a : Fin 2, off a + ![n, 64] a ≤ S1024x64.size a) (A f : FVec F S1024x64 .f32) :
    Agree A ((eM.access (Rect.unit (s := S1024x64) off ![n, 64] inb)).write (Elt F) f (rowsOf n s A) Finset.univ) s n := by
  intro i h1 h2
  let j : (Blk n).Idx := fun a => match a with
    | ⟨0, _⟩ => ⟨rowOf i - s, by show rowOf i - s < n; omega⟩
    | ⟨1, _⟩ => colOf i
  have hi : (Rect.unit (s := S1024x64) off ![n, 64] inb).emb j = i := by
    refine idx_ext (n := 1024) ((emb_row hoff inb j).trans ?_) (emb_col hoff inb j)
    show s + (rowOf i - s) = rowOf i
    omega
  have hw := View.read_slice_write_emb (Val := Elt F) (v := eM.view) (Rect.unit (s := S1024x64) off ![n, 64] inb) f (rowsOf n s A)
    (M := Finset.univ) (x := j) (Finset.mem_univ _)
  rw [hi] at hw
  refine Eq.trans ?_ (hw.trans ?_)
  · rfl
  · unfold rowsOf
    congr 1
    refine idx_ext (n := 1024) ?_ rfl
    show (s + (rowOf i - s)) % 1024 = rowOf i
    have := rowOf_lt (n := 1024) i
    rw [Nat.mod_eq_of_lt] <;> omega

theorem write_off {n s : ℕ} {off : Fin 2 → ℕ} (hoff : off = ![s, 0])
    (inb : ∀ a : Fin 2, off a + ![n, 64] a ≤ S1024x64.size a) {f : FVec F S1024x64 .f32} (w : FVec F (Blk n) .f32)
    {B : FVec F S1024x64 .f32} {s' n' : ℕ} (h : Agree B f s' n') (hd : s' + n' ≤ s ∨ s + n ≤ s') :
    Agree B ((eM.access (Rect.unit (s := S1024x64) off ![n, 64] inb)).write (Elt F) f w Finset.univ) s' n' := by
  intro i h1 h2
  rw [← h i h1 h2]
  have hw := View.read_slice_write_of_not_mem (Val := Elt F) (v := eM.view) (Rect.unit (s := S1024x64) off ![n, 64] inb) f w
    Finset.univ (y := i) (fun hm => by
      obtain ⟨j, -, hj⟩ := Finset.mem_map.mp hm
      have e := emb_row hoff inb j
      have hjl : (j (0 : Fin 2)).val < n := (j (0 : Fin 2)).isLt
      have e2 : rowOf (n := 1024) i = s + (j (0 : Fin 2)).val := by rw [← e]; exact congrArg rowOf hj.symm
      omega)
  exact hw

/-! ## The arrays -/

variable (X : Dev nD → FVec F S128x64 .f32)

/-- Device number `b` (counted modulo eight). -/
def dev (b : ℕ) : Dev nD := ⟨b % 8, Nat.mod_lt _ (by decide)⟩
theorem dev_val (c : Dev nD) : dev c.val = c := Fin.ext (Nat.mod_eq_of_lt c.isLt)

/-- The bit "an odd number" and the bit "an even number". -/
def oddBit (b : ℕ) : BitVec 1 := if b % 2 = 1 then 1#1 else 0#1
def evenBit (b : ℕ) : BitVec 1 := if b % 2 = 0 then 1#1 else 0#1

/-- The gathered array: every device's block after its own sort, odd devices' the other way round. -/
def gathered : FVec F S1024x64 .f32 := glue 128 (by decide) fun b => ownSort (oddBit b) (X (dev b))
/-- … with its runs of 256 rows merged, -/
def merged₂ : FVec F S1024x64 .f32 := glue 256 (by decide) fun b => merge₂ (evenBit b) (rowsOf 256 (256 * b) (gathered X))
/-- … and its runs of 512 rows. -/
def merged₅ : FVec F S1024x64 .f32 := glue 512 (by decide) fun b => merge₅ (evenBit b) (rowsOf 512 (512 * b) (merged₂ X))

/-- The compare-exchange between whole runs of `n` rows: a run of even number keeps the smaller of itself and the next,
    a run of odd number the larger of itself and the one before. -/
def across (n : ℕ) (hn : 0 < n) (A : FVec F S1024x64 .f32) : FVec F S1024x64 .f32 := glue n hn fun b =>
  if b % 2 = 0 then minimumf (rowsOf n (n * b) A) (rowsOf n (n * (b + 1)) A)
  else maximumf (rowsOf n (n * b) A) (rowsOf n (n * (b - 1)) A)

def after₅ : FVec F S1024x64 .f32 := across 512 (by decide) (merged₅ X)
def after₂ : FVec F S1024x64 .f32 := across 256 (by decide) (after₅ X)
def after₁ : FVec F S1024x64 .f32 := across 128 (by decide) (after₂ X)

/-- The kernel's result on device `c`. -/
def outOf (c : Dev nD) : FVec F S128x64 .f32 := closing (rowsOf 128 (128 * c.val) (after₁ X))

end Cert.SortProof
end
-- ==== Proof.Protocol.lean ====
/-
# The protocol of the exchange

Eight devices, each of which meets the seven others: round `e + 1` of the kernel pairs device `c` with the device
`peer e c` whose number differs from `c`'s in the bits of `e + 1`. Each device raises the barrier of its seven peers,
waits for its own barrier to reach seven, and then copies its sorted block into the same rows of each peer's gather
buffer, one send and one receive semaphore per peer.

The protocol is stated by rounds, one round per cell, with the peer number `e : Fin 7` as the name of a duty. The barrier
cell of `c` has seven duties of one unit; duty `e` is paid by `peer e c` and hands `c` the rows of `peer e c`'s gather
buffer that `c` will write. The send cell of
number `e` hands `c` the share of its own rows that the copy read; its receive cell of number `e` hands it the rows of
`peer e c`, written.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds and the exchange's -/

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter zero, any generator registers. -/
def start₀ : MemSt nD τ sig (Elt F) := ⟨m, fun _ => 0, ρ⟩

/-! ## Peers -/

theorem peer_lt : ∀ (e : Fin 7) (c : Dev nD), c.val ^^^ (e.val + 1) < nD := by decide +kernel
/-- The device that device `c` meets in exchange number `e`. -/
def peer (e : Fin 7) (c : Dev nD) : Dev nD := ⟨c.val ^^^ (e.val + 1), peer_lt e c⟩
theorem peer_peer : ∀ (e : Fin 7) (c : Dev nD), peer e (peer e c) = c := by decide +kernel
theorem peer_ne : ∀ (e : Fin 7) (c : Dev nD), peer e c ≠ c := by decide +kernel
/-- Meeting is a matching of the devices. -/
def matching (e : Fin 7) : Dev nD ≃ Dev nD := ⟨peer e, peer e, peer_peer e, peer_peer e⟩

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 5 c := by decide +kernel
theorem dev7_eq : ∀ c : Dev nD, (⟨k0_dev7 c, k0_dev7_lt c⟩ : Dev nD) = peer 6 c := by decide +kernel
theorem dev8_eq : ∀ c : Dev nD, (⟨k0_dev8 c, k0_dev8_lt c⟩ : Dev nD) = peer 0 c := by decide +kernel
theorem dev9_eq : ∀ c : Dev nD, (⟨k0_dev9 c, k0_dev9_lt c⟩ : Dev nD) = peer 1 c := by decide +kernel
theorem dev10_eq : ∀ c : Dev nD, (⟨k0_dev10 c, k0_dev10_lt c⟩ : Dev nD) = peer 2 c := by decide +kernel
theorem dev11_eq : ∀ c : Dev nD, (⟨k0_dev11 c, k0_dev11_lt c⟩ : Dev nD) = peer 3 c := by decide +kernel
theorem dev12_eq : ∀ c : Dev nD, (⟨k0_dev12 c, k0_dev12_lt c⟩ : Dev nD) = peer 4 c := by decide +kernel
theorem dev13_eq : ∀ c : Dev nD, (⟨k0_dev13 c, k0_dev13_lt c⟩ : Dev nD) = peer 5 c := by decide +kernel
theorem dev14_eq : ∀ c : Dev nD, (⟨k0_dev14 c, k0_dev14_lt c⟩ : Dev nD) = peer 6 c := by decide +kernel

/-! ## Semaphores and cells -/

abbrev xM : Memref sig .tc .vmem S128x64 .f32 := Memref.whole cc0_stg0_0
abbrev oM : Memref sig .tc .vmem S128x64 .f32 := Memref.whole cc0_stg1_0

/-- The runtime's barrier semaphore, and the send and the receive semaphore of each exchange. -/
abbrev barS : Sem sig := (SemArray.scalar (sig.barrier 0 rfl) : Sems sig S_).sem
def sendS (e : Fin 7) : DmaSem sig := (⟨2 + e.val, by have := e.isLt; show 2 + e.val < 16; omega⟩ : Fin 16)
def recvS (e : Fin 7) : DmaSem sig := (⟨9 + e.val, by have := e.isLt; show 9 + e.val < 16; omega⟩ : Fin 16)

theorem sendS_inj {e e' : Fin 7} (h : (SemLoc.dma (sendS e) : SemLoc sig) = .dma (sendS e')) : e = e' := by
  revert e e'; decide +kernel
theorem recvS_inj {e e' : Fin 7} (h : (SemLoc.dma (recvS e) : SemLoc sig) = .dma (recvS e')) : e = e' := by
  revert e e'; decide +kernel
theorem send_ne_recv : ∀ e e' : Fin 7, (SemLoc.dma (sendS e) : SemLoc sig) ≠ .dma (recvS e') := by decide +kernel
theorem dma_ne_bar (q : DmaSem sig) : (SemLoc.dma q : SemLoc sig) ≠ .reg barS := fun h => by cases h

abbrev barCell (c : Dev nD) : GSem nD τ sig := ((c : Thread nD τ), .reg barS)
abbrev sendCell (e : Fin 7) (c : Dev nD) : GSem nD τ sig := ((c : Thread nD τ), .dma (sendS e))
abbrev recvCell (e : Fin 7) (c : Dev nD) : GSem nD τ sig := ((c : Thread nD τ), .dma (recvS e))

/-- The cells of one device: its barrier, its send cells (`false`), its receive cells (`true`). -/
abbrev CI : Type := Option (Bool × Fin 7)
abbrev csem : CI → SemLoc sig := fun
  | none => .reg barS
  | some (false, e) => .dma (sendS e)
  | some (true, e) => .dma (recvS e)
abbrev kcell (ck : Dev nD × CI) : GSem nD τ sig := ((ck.1 : Thread nD τ), csem ck.2)

/-! ## Rows of the gather buffer -/

/-- The rows of device `d`. -/
abbrev rowRect (d : Dev nD) : Rect S1024x64 := Rect.unit (s := S1024x64) (k0_off2 d) S128x64.size (k0_off2_inb d)
abbrev blkM (d : Dev nD) : Memref sig .tc .vmem S128x64 .f32 := gM.slice (rowRect d) (fun _ => rfl)

/-- The credit of one copy. -/
abbrev N : ℕ := (blkM 0).view.dmaCredit
theorem N_pos : 0 < N := View.dmaCredit_pos _ (by decide)

/-- Device `c`'s buffer holds `f` on the rows of device `d`, at share `q`. -/
def blkPts (c d : Dev nD) (q : PosShare TreeShare) (f : Buf (Elt F) ((c : Thread nD τ).loc cc0_scratch0)) : sProp 𝕄 :=
  ((c : Thread nD τ).loc cc0_scratch0) ↦[(rowRect d).set]{q} f

omit [FloatOps F] in
instance blkPts_storable (c d : Dev nD) (q) (f) : BI.Storable (upEmb : UEmb _ 𝕄) (blkPts (F := F) c d q f) := by
  unfold blkPts; infer_instance

omit [FloatOps F] in
theorem blk_set (d : Dev nD) : (blkM d).view.set = (rowRect d).set := View.set_slice_whole _ _

omit [FloatOps F] in
/-- … which is what the rules for copies call the elements of the block's view. -/
theorem blkPts_eq (c d : Dev nD) (q : PosShare TreeShare) (f : Buf (Elt F) ((c : Thread nD τ).loc cc0_scratch0)) :
    blkPts c d q f = ((blkM d).view.loc (c : Thread nD τ) ↦[(blkM d).view.set]{q} f : sProp 𝕄) := by
  unfold blkPts; rw [blk_set]

theorem mem_rows (d : Dev nD) (i : S1024x64.Idx) :
    i ∈ (rowRect d).set ↔ 128 * d.val ≤ rowOf (n := 1024) i ∧ rowOf (n := 1024) i < 128 * d.val + 128 := by
  rw [Rect.mem_set_unit, k0_off2_eq]
  constructor
  · intro h; exact h 0
  · intro h a
    match a with
    | ⟨0, _⟩ => exact h
    | ⟨1, _⟩ =>
      refine ⟨Nat.zero_le _, ?_⟩
      show (i (1 : Fin 2)).val < 0 + 64
      have : (i (1 : Fin 2)).val < 64 := (i (1 : Fin 2)).isLt
      omega

theorem rows_disjoint {d d' : Dev nD} (h : d ≠ d') : Disjoint (rowRect d).set (rowRect d').set := by
  rw [Finset.disjoint_left]
  intro i hi hi'
  rw [mem_rows] at hi hi'
  exact h (Fin.ext (by omega))

theorem rows_union : (Finset.univ : Finset (Dev nD)).biUnion (fun d => (rowRect d).set) = Finset.univ := by
  refine Finset.eq_univ_of_forall fun i => Finset.mem_biUnion.mpr ?_
  have hi := rowOf_lt (n := 1024) i
  refine ⟨⟨rowOf (n := 1024) i / 128, by show rowOf (n := 1024) i / 128 < 8; omega⟩, Finset.mem_univ _, ?_⟩
  rw [mem_rows]
  dsimp only
  omega

/-! ## Shares of the own rows: the left half stays, the right half is dealt to the seven copies -/

def rest : ℕ → PosShare TreeShare
  | 0 => (fullShare : PosShare TreeShare).right
  | n + 1 => (rest n).right
def copyShare (e : Fin 7) : PosShare TreeShare := (rest e.val).left

/-! ## Contents -/

/-- What the input's staging buffer holds on device `c`. -/
def xstg (c : Dev nD) : FVec F S128x64 .f32 :=
  (win0_0.blk (0 : Fin 1)).view.read (Elt F) ((start₀ m ρ).mem ((c : Thread nD τ).loc main_arg0))

/-- The gathered array, as contents of the gather buffer. -/
def GG : FVec F S1024x64 .f32 := gathered (xstg m ρ)

/-! ## The schedule -/

def barPay (d : Fin 7) (c : Dev nD) : sProp 𝕄 :=
  iprop(∃ f, blkPts (peer d c) c fullShare f)
def recvPay (d : Fin 7) (c : Dev nD) : sProp 𝕄 := blkPts c (peer d c) fullShare (GG m ρ)
def sendPay (d : Fin 7) (c : Dev nD) : sProp 𝕄 := blkPts c c (copyShare d) (GG m ρ)

/-- One round: a barrier cell has the seven duties of one unit each, the send and the receive cell of number `e` the
    duty `e` of the credit of one copy. -/
def sched : Rounds.Schedule (GSem nD τ sig) (Fin 7) 𝕄 where
  duties g r :=
    if r = 0 ∧ g.1.2 = .tc then
      (if g.2 = .reg barS then Finset.univ
       else Finset.univ.filter fun e : Fin 7 => g.2 = .dma (sendS e) ∨ g.2 = .dma (recvS e))
    else ∅
  unitless _ := False
  amount g _ _ := if g.2 = .reg barS then 1 else N
  payload g _ d :=
    if g.2 = .reg barS then barPay d g.1.1
    else if g.2 = .dma (recvS d) then recvPay m ρ d g.1.1
    else if g.2 = .dma (sendS d) then sendPay m ρ d g.1.1
    else iprop(emp)
  amount_pos g _ _ _ := by
    by_cases h : g.2 = .reg barS
    · rw [if_pos h]; exact Nat.one_pos
    · rw [if_neg h]; exact N_pos

instance sched_storable (g : GSem nD τ sig) (r : ℕ) (d : Fin 7) :
    BI.Storable (upEmb : UEmb _ 𝕄) ((sched (F := F) m ρ).payload g r d) := by
  show BI.Storable upEmb (if g.2 = .reg barS then barPay d g.1.1 else if g.2 = .dma (recvS d) then recvPay m ρ d g.1.1
    else if g.2 = .dma (sendS d) then sendPay m ρ d g.1.1 else iprop(emp))
  unfold barPay recvPay sendPay
  (repeat' split) <;> infer_instance

section Sched
variable (c : Dev nD) (e : Fin 7)

theorem duties_bar : (sched (F := F) m ρ).duties (barCell c) 0 = Finset.univ := by
  dsimp only [sched]; rw [if_pos ⟨rfl, rfl⟩]; exact if_pos rfl
theorem duties_send : (sched (F := F) m ρ).duties (sendCell e c) 0 = {e} := by
  dsimp only [sched]; rw [if_pos ⟨rfl, rfl⟩, if_neg (dma_ne_bar _)]
  ext d
  rw [Finset.mem_filter, Finset.mem_singleton]
  constructor
  · rintro ⟨-, h | h⟩
    · exact (sendS_inj h).symm
    · exact absurd h (send_ne_recv _ _)
  · rintro rfl; exact ⟨Finset.mem_univ _, Or.inl rfl⟩
theorem duties_recv : (sched (F := F) m ρ).duties (recvCell e c) 0 = {e} := by
  dsimp only [sched]; rw [if_pos ⟨rfl, rfl⟩, if_neg (dma_ne_bar _)]
  ext d
  rw [Finset.mem_filter, Finset.mem_singleton]
  constructor
  · rintro ⟨-, h | h⟩
    · exact absurd h.symm (send_ne_recv _ _)
    · exact (recvS_inj h).symm
  · rintro rfl; exact ⟨Finset.mem_univ _, Or.inr rfl⟩
theorem duties_later (g : GSem nD τ sig) : ∀ r, 1 ≤ r → (sched (F := F) m ρ).duties g r = ∅ :=
  fun r hr => by dsimp only [sched]; exact if_neg fun h => by omega

theorem amount_bar (d : Fin 7) : (sched (F := F) m ρ).amount (barCell c) 0 d = 1 := by dsimp only [sched]; exact if_pos rfl
theorem amount_send (d : Fin 7) : (sched (F := F) m ρ).amount (sendCell e c) 0 d = N := by
  dsimp only [sched]; exact if_neg (dma_ne_bar _)
theorem amount_recv (d : Fin 7) : (sched (F := F) m ρ).amount (recvCell e c) 0 d = N := by
  dsimp only [sched]; exact if_neg (dma_ne_bar _)

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin,
    smul_eq_mul]
theorem expect_send : (sched (F := F) m ρ).expect (sendCell e c) 0 = N := by
  unfold Schedule.expect Schedule.amountOf; rw [duties_send, Finset.sum_singleton, amount_send]
theorem expect_recv : (sched (F := F) m ρ).expect (recvCell e c) 0 = N := by
  unfold Schedule.expect Schedule.amountOf; rw [duties_recv, Finset.sum_singleton, amount_recv]

theorem payload_bar (d : Fin 7) : (sched (F := F) m ρ).payload (barCell c) 0 d = barPay d c := by
  dsimp only [sched]; exact if_pos rfl
theorem payload_send : (sched (F := F) m ρ).payload (sendCell e c) 0 e = sendPay m ρ e c := by
  dsimp only [sched]; rw [if_neg (dma_ne_bar _), if_neg (send_ne_recv _ _), if_pos rfl]
theorem payload_recv : (sched (F := F) m ρ).payload (recvCell e c) 0 e = recvPay m ρ e c := by
  dsimp only [sched]; rw [if_neg (dma_ne_bar _), if_pos rfl]

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- All that the barrier's round hands over. -/
theorem rest_bar : bigSep ((sched (F := F) m ρ).duties (barCell c) 0 \ ∅) (fun d => (sched (F := F) m ρ).payload (barCell c) 0 d)
    = iprop(barPay 0 c ∗ barPay 1 c ∗ barPay 2 c ∗ barPay 3 c ∗ barPay 4 c ∗ barPay 5 c ∗ barPay 6 c) := by
  rw [Finset.sdiff_empty, duties_bar, bigSep_congr (fun d _ => payload_bar m ρ c d), bigSep_fin7]
theorem rest_send : bigSep ((sched (F := F) m ρ).duties (sendCell e c) 0 \ ∅) (fun d => (sched (F := F) m ρ).payload (sendCell e c) 0 d)
    = sendPay m ρ e c := by
  rw [Finset.sdiff_empty, duties_send, bigSep_singleton, payload_send]
theorem rest_recv : bigSep ((sched (F := F) m ρ).duties (recvCell e c) 0 \ ∅) (fun d => (sched (F := F) m ρ).payload (recvCell e c) 0 d)
    = recvPay m ρ e c := by
  rw [Finset.sdiff_empty, duties_recv, bigSep_singleton, payload_recv]

end Sched

/-! ## What a device owes, and the levels -/

/-- The exchanges in the order the kernel takes them. -/
abbrev order : List (Fin 7) := [0, 1, 2, 3, 4, 5, 6]
/-- The receive credits device `c` still owes its peers, with the exchanges `l` to come, -/
def owedR (c : Dev nD) : List (Fin 7) → CellTallies nD τ sig Unit
  | [] => 0
  | e :: l => owedR c l + tallyAt (recvCell e (peer e c)) () N
/-- and with those the barrier units it still owes, with the signals `l` to come. -/
def owedB (c : Dev nD) : List (Fin 7) → CellTallies nD τ sig Unit
  | [] => owedR c order
  | e :: l => owedB c l + tallyAt (barCell (peer e c)) () 1
/-- What device `c` owes at launch. -/
def owed₀ (c : Dev nD) : CellTallies nD τ sig Unit := owedB c order

def L (g : GSem nD τ sig) : Finset Unit := if g.1.2 = .tc then {()} else ∅
/-- The barrier cells at level 1, the receive cells at 2, everything else at 0. -/
def lv (g : GSem nD τ sig) (_ : Unit) : ℕ := if g.2 = .reg barS then 1 else if ∃ e, g.2 = .dma (recvS e) then 2 else 0

theorem L_of_ne (g : GSem nD τ sig) (h : g.1.2 ≠ .tc) : L g = ∅ := if_neg h
theorem L_tc (c : Dev nD) (sm : SemLoc sig) : L ((c : Thread nD τ), sm) = {()} := if_pos rfl

theorem owedR_pos {c : Dev nD} {l : List (Fin 7)} {g : GSem nD τ sig} {u : Unit} (h : 0 < owedR c l g u) :
    ∃ e, g = recvCell e (peer e c) := by
  induction l with
  | nil => exact absurd h (Nat.lt_irrefl 0)
  | cons e l ih =>
    unfold owedR at h
    rw [Pi.add_apply, Finsupp.add_apply, tallyAt_apply] at h
    by_cases hc : g = recvCell e (peer e c) ∧ u = ()
    · exact ⟨e, hc.1⟩
    · rw [if_neg hc, Nat.add_zero] at h; exact ih h

theorem owedB_pos {c : Dev nD} {l : List (Fin 7)} {g : GSem nD τ sig} {u : Unit} (h : 0 < owedB c l g u) :
    (∃ e, g = recvCell e (peer e c)) ∨ ∃ e, g = barCell (peer e c) := by
  induction l with
  | nil => exact Or.inl (owedR_pos h)
  | cons e l ih =>
    unfold owedB at h
    rw [Pi.add_apply, Finsupp.add_apply, tallyAt_apply] at h
    by_cases hc : g = barCell (peer e c) ∧ u = ()
    · exact Or.inr ⟨e, hc.1⟩
    · rw [if_neg hc, Nat.add_zero] at h; exact ih h

theorem lv_recv (e : Fin 7) (c : Dev nD) (u : Unit) : lv (recvCell e c) u = 2 := by
  unfold lv; rw [if_neg (dma_ne_bar _), if_pos ⟨e, rfl⟩]
theorem lv_bar (c : Dev nD) (u : Unit) : lv (barCell c) u = 1 := by unfold lv; exact if_pos rfl

theorem mayWait_stage (c : Dev nD) (q : DmaSem sig) (hq : ∀ e, (SemLoc.dma q : SemLoc sig) ≠ .dma (recvS e))
    (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos hg with ⟨e, rfl⟩ | ⟨e, rfl⟩ <;> exact Finset.mem_singleton_self _)
      (fun p hp => by
        rw [Finset.mem_singleton.mp hp]; dsimp only [lv]
        rw [if_neg (fun h => by cases h), if_neg (fun ⟨e, h⟩ => hq e h)])
      (fun g u hg => by
        rcases owedB_pos hg with ⟨e, rfl⟩ | ⟨e, rfl⟩
        · rw [lv_recv]; decide
        · rw [lv_bar]; decide)
  · rw [MayWait_zero]; iintro -; iempintro

/-- At its barrier wait a device owes receive credits only, above its barrier. -/
theorem mayWait_bar (c : Dev nD) :
    (levAts L lv : sProp 𝕄) ⊢ MayWait (c : Thread nD τ) (.reg barS) () (owedB c []) :=
  MayOwe.of_cut (L := L) (lev := lv) 1 (fun p hp => by rw [Finset.mem_singleton.mp hp, L_tc]; exact Finset.mem_singleton_self _)
    (fun g u hg => by obtain ⟨e, rfl⟩ := owedR_pos hg; exact Finset.mem_singleton_self _)
    (fun p hp => by rw [Finset.mem_singleton.mp hp]; exact le_of_eq (lv_bar c _))
    (fun g u hg => by obtain ⟨e, rfl⟩ := owedR_pos hg; rw [lv_recv]; decide)

/-! ## The records -/

def records (K : Dev nD × CI → ℕ) : sProp 𝕄 :=
  iprop((bigSep Finset.univ fun ck : Dev nD × CI => cellInv EX (sched m ρ) (K ck) (kcell ck))
    ∗ bigSep Finset.univ fun ck : Dev nD × CI => reached EX (kcell ck) 0)

instance records_persistent (K : Dev nD × CI → ℕ) : BI.Persistent (records m ρ K) := by unfold records; infer_instance

theorem inv_at (K : Dev nD × CI → ℕ) (ck : Dev nD × CI) :
    records m ρ K ⊢ cellInv EX (sched m ρ) (K ck) (kcell ck) := by
  unfold records
  exact sep_elim_left.trans (bigSep_elim (Finset.mem_univ ck))
theorem reached_at (K : Dev nD × CI → ℕ) (ck : Dev nD × CI) :
    records m ρ K ⊢ reached EX (kcell ck) 0 := by
  unfold records
  exact sep_elim_right.trans (bigSep_elim (Finset.mem_univ ck))

end Cert.SortProof
end
-- ==== Proof.Steps.lean ====
/-
# One step of the exchange at a time

For each kind of effect the kernel has, the rule by which its proof passes it: a signal to a peer, the barrier's wait, a
copy to a peer, the wait for a peer's rows, the wait for a copy of one's own, the loads of the two buffers and the
stores into them. Each is stated for every peer `e`, or for every window of rows, and used as often as the kernel has the
effect.
-/
module

public import proofs.«01_k».proof.Proof.Protocol

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none
/-- A program on core `c` runs to a result satisfying `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What core `c` owes, whatever waits it has passed. -/
def debt (c : Dev nD) (O : CellTallies nD τ sig Unit) : sProp 𝕄 := iprop(∃ W, owes (c : Thread nD τ) O W)

variable (K : Dev nD × CI → ℕ)

section Steps
variable (c : Dev nD) (e : Fin 7)

/-- A signal to peer `e`: the device hands over the peer's rows of its own gather buffer. -/
theorem wp_signal_peer {l : List (Fin 7)} {d : Dev nD} (hd : d = peer e c) {n : ℤ} (hn : n = ((1 : ℕ) : ℤ))
    {α : Type} {k : PUnit → Prog (TpuEff nD τ sig (Elt F) Λ₀ .tc) α} {Q : α → sProp 𝕄} :
    iprop(records m ρ K ∗ debt c (owedB c (e :: l)) ∗ dutyTok EX (barCell (peer e c)) 0 e ∗ (∃ f, blkPts c (peer e c) fullShare f))
      ⊢ iprop((debt c (owedB c l) -∗ runs c (k ⟨⟩) Q)
          -∗ runs c (.op (.semSignal (d : Thread nD τ) barS n) k) Q) := by
  subst hd; subst hn
  unfold debt
  iintro ⟨#HR, ⟨%W, HO⟩, Ht, Hp⟩ Hk
  iapply (Rounds.wp_signal 𝒱₀ EX (sched m ρ) (c : Thread nD τ) none (dst := (peer e c : Thread nD τ)) (κ := K (peer e c, none))
      (d := e) (by rw [duties_bar]; exact Finset.mem_univ _) (amount_bar m ρ (peer e c) e) () (owedB c l) rfl)
    $$ [HO Ht Hp]
  · isplitr; · iapply (inv_at m ρ K (peer e c, none)); iexact HR
    isplitl [HO]; · iexact HO
    isplitl [Ht]; · iexact Ht
    isplitl [Hp]
    · rw [payload_bar]; unfold barPay; rw [peer_peer]; iexact Hp
    · iapply (reached_at m ρ K (peer e c, none)); iexact HR
  iintro HO
  iapply Hk
  iexists W; iexact HO

/-- The wait for all seven barrier units, after which every peer's rows for this device's block are here. -/
theorem wp_wait_barrier {n : ℤ} (hn : n = ((7 : ℕ) : ℤ)) {α : Type} {k : PUnit → Prog (TpuEff nD τ sig (Elt F) Λ₀ .tc) α} {Q : α → sProp 𝕄} :
    iprop(records m ρ K ∗ debt c (owedB c []) ∗ levAts L lv ∗ cred (tallyAt (barCell c) () 7) ∗ atPos EX (barCell c) 0 ∅ 0)
      ⊢ iprop(((debt c (owedR c order) ∗ semVal (barCell c) 0
            ∗ barPay 0 c ∗ barPay 1 c ∗ barPay 2 c ∗ barPay 3 c ∗ barPay 4 c ∗ barPay 5 c ∗ barPay 6 c) -∗ runs c (k ⟨⟩) Q)
          -∗ runs c (.op (.semWait barS n) k) Q) := by
  subst hn
  unfold debt
  iintro ⟨#HR, ⟨%W, HO⟩, #Hlev, Hc, Hat⟩ Hk
  ihave #HI := (inv_at m ρ K (c, none)) $$ HR
  iapply (Rounds.wp_wait_rest_token 𝒱₀ EX (sched m ρ) (c : Thread nD τ) none (κ := K (c, none))
      (wpE_semWait_eq 𝒱₀ (c : Thread nD τ) none Set.univ) (Set.mem_univ _) () (O := owedB c []) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close EX (sched m ρ) (Set.mem_univ (K (c, none))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- The copy of the device's own rows to peer `e`. -/
theorem wp_copy_peer {l : List (Fin 7)} {d : Dev nD} (hd : d = peer e c) {sS rS : DmaSem sig} (hsS : sS = sendS e) (hrS : rS = recvS e)
    {hsc : (blkM c : Memref sig (Dev.tc d : Thread nD τ).2.kind .vmem S128x64 .f32).view.ref.isScScratch = false}
    {hsrc : (blkM c).view.WordExact} {hdst : (blkM c : Memref sig (Dev.tc d : Thread nD τ).2.kind .vmem S128x64 .f32).view.WordExact}
    {hsem : DmaTarget.Typed .vmem (.dma rS) (.remote (Dev.tc d : Thread nD τ) (blkM c) (.dma sS) hsc)}
    {α : Type} {k : PUnit → Prog (TpuEff nD τ sig (Elt F) Λ₀ .tc) α} {Q : α → sProp 𝕄} :
    iprop(records m ρ K ∗ debt c (owedR c (e :: l)) ∗ dutyTok EX (sendCell e c) 0 e ∗ dutyTok EX (recvCell e (peer e c)) 0 e
        ∗ blkPts c c (copyShare e) (GG m ρ) ∗ barPay e c)
      ⊢ iprop(((cred (tallyAt (sendCell e c) () N) ∗ debt c (owedR c l)) -∗ runs c (k ⟨⟩) Q)
          -∗ runs c (.op (.enqueueDma (blkM c) (.remote (Dev.tc d : Thread nD τ) (blkM c) (.dma sS) hsc) (.dma rS) hsrc hdst hsem) k) Q) := by
  subst hd; subst hsS; subst hrS
  have hN : (blkM c : Memref sig (Dev.tc (peer e c) : Thread nD τ).2.kind .vmem S128x64 .f32).view.amount (.dma (recvS e)) = N := rfl
  have h₁ : ((blkM c).view.loc (c : Thread nD τ) ↦[(blkM c).view.set]{copyShare e} GG m ρ : sProp 𝕄)
      ⊢ (sched (F := F) m ρ).payload (sendCell e c) 0 e := by
    rw [payload_send]; unfold sendPay; rw [blkPts_eq]
  have h₂ (f : Buf (Elt F) ((peer e c : Thread nD τ).loc cc0_scratch0)) :
      ((blkM c).view.loc (peer e c : Thread nD τ) ↦[(blkM c).view.set]{fullShare}
        (blkM c).view.write (Elt F) f ((blkM c).view.read (Elt F) (GG m ρ)) Finset.univ : sProp 𝕄)
      ⊢ (sched (F := F) m ρ).payload (recvCell e (peer e c)) 0 e := by
    rw [payload_recv]; unfold recvPay; rw [peer_peer, blkPts_eq]
    refine Entails.of_eq (pointsTo_congr fun i hi => ?_)
    rw [View.write_read_eq_piecewise, View.setOn_univ, Finset.piecewise_eq_of_mem _ _ _ hi]
  unfold debt barPay
  simp only [blkPts_eq]
  iintro ⟨#HR, ⟨%W, HO⟩, Ht, Ht', Hx, ⟨%f, Hy⟩⟩ Hk
  iapply (Rounds.wp_send_pointsTo 𝒱₀ EX (sched m ρ) (c : Thread nD τ) none (c' := (peer e c : Thread nD τ))
    (src := blkM c) (dst := blkM c) (sS := .dma (sendS e)) (sem := .dma (recvS e)) (q := copyShare e) (fs := GG m ρ)
    (κ₁ := K (c, some (false, e))) (κ₂ := K (peer e c, some (true, e)))
    (r₁ := 0) (r₂ := 0) (d₁ := e) (d₂ := e) (fd := f)
    (by rw [duties_send]; exact Finset.mem_singleton_self _) (by rw [duties_recv]; exact Finset.mem_singleton_self _)
    () () N hN (amount_send m ρ c e e) (amount_recv m ρ (peer e c) e e) (owedR c l) rfl (W := W) h₁ (h₂ f)) $$ [HO Ht Ht' Hx Hy]
  · isplitr; · iapply (inv_at m ρ K (c, some (false, e))); iexact HR
    isplitr; · iapply (inv_at m ρ K (peer e c, some (true, e))); iexact HR
    isplitl [Hx]; · iexact Hx
    isplitl [Hy]; · iexact Hy
    isplitl [HO]; · iexact HO
    isplitl [Ht]; · iexact Ht
    isplitr; · iapply (reached_at m ρ K (c, some (false, e))); iexact HR
    isplitl [Ht']; · iexact Ht'
    iapply (reached_at m ρ K (peer e c, some (true, e))); iexact HR
  iintro ⟨Hc, HO⟩
  iapply Hk
  isplitl [Hc]; · iexact Hc
  iexists _; iexact HO

/-- The wait for the rows of peer `e`. -/
theorem wp_wait_rows {rS : DmaSem sig} (hrS : rS = recvS e) {src : Memref sig .tc .vmem S128x64 .f32} {off : Fin 2 → ℕ}
    {inb : ∀ a : Fin 2, off a + S128x64.size a ≤ S1024x64.size a}
    {hst : ∀ a, (Rect.unit (s := S1024x64) off S128x64.size inb).stride a = 1} {hsrc : src.view.WordExact}
    {hdst : (gM.slice (Rect.unit (s := S1024x64) off S128x64.size inb) hst).view.WordExact}
    {α : Type} {k : PUnit → Prog (TpuEff nD τ sig (Elt F) Λ₀ .tc) α} {Q : α → sProp 𝕄} :
    iprop(records m ρ K ∗ debt c 0 ∗ cred (tallyAt (recvCell e c) () N) ∗ atPos EX (recvCell e c) 0 ∅ 0)
      ⊢ iprop(((debt c 0 ∗ semVal (recvCell e c) 0 ∗ blkPts c (peer e c) fullShare (GG m ρ)) -∗ runs c (k ⟨⟩) Q)
          -∗ runs c (.op (.waitDma2 rS src (gM.slice (Rect.unit (s := S1024x64) off S128x64.size inb) hst) hsrc hdst) k) Q) := by
  subst hrS
  have hN : (gM.slice (Rect.unit (s := S1024x64) off S128x64.size inb) hst).view.dmaCredit = N := rfl
  unfold debt
  iintro ⟨#HR, ⟨%W, HO⟩, Hc, Hat⟩ Hk
  ihave #HI := (inv_at m ρ K (c, some (true, e))) $$ HR
  iapply (Rounds.wp_wait_rest_token 𝒱₀ EX (sched m ρ) (c : Thread nD τ) none (κ := K (c, some (true, e)))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c e)) $$ Hpay
  imod (Rounds.cell_close EX (sched m ρ) (Set.mem_univ (K (c, some (true, e)))) (fun h => h) (R := 0 + 1) (duties_later m ρ (recvCell e c))) $$ [Hat] with Hz
  · isplitr; · iexact HI
    iexact Hat
  iapply Hk
  isplitl [HO]; · iexists _; iexact HO
  isplitl [Hz]; · iexact Hz
  unfold recvPay
  iexact Hp

/-- The wait for the device's own copy to peer `e`. -/
theorem wp_wait_copied {sS : DmaSem sig} (hsS : sS = sendS e) {src : Memref sig .tc .vmem S128x64 .f32} {off : Fin 2 → ℕ}
    {inb : ∀ a : Fin 2, off a + S128x64.size a ≤ S1024x64.size a}
    {hst : ∀ a, (Rect.unit (s := S1024x64) off S128x64.size inb).stride a = 1} {hsrc : src.view.WordExact}
    {hdst : (gM.slice (Rect.unit (s := S1024x64) off S128x64.size inb) hst).view.WordExact}
    {α : Type} {k : PUnit → Prog (TpuEff nD τ sig (Elt F) Λ₀ .tc) α} {Q : α → sProp 𝕄} :
    iprop(records m ρ K ∗ debt c 0 ∗ cred (tallyAt (sendCell e c) () N) ∗ atPos EX (sendCell e c) 0 ∅ 0)
      ⊢ iprop(((debt c 0 ∗ semVal (sendCell e c) 0 ∗ blkPts c c (copyShare e) (GG m ρ)) -∗ runs c (k ⟨⟩) Q)
          -∗ runs c (.op (.waitDma2 sS src (gM.slice (Rect.unit (s := S1024x64) off S128x64.size inb) hst) hsrc hdst) k) Q) := by
  subst hsS
  have hN : (gM.slice (Rect.unit (s := S1024x64) off S128x64.size inb) hst).view.dmaCredit = N := rfl
  unfold debt
  iintro ⟨#HR, ⟨%W, HO⟩, Hc, Hat⟩ Hk
  ihave #HI := (inv_at m ρ K (c, some (false, e))) $$ HR
  iapply (Rounds.wp_wait_rest_token 𝒱₀ EX (sched m ρ) (c : Thread nD τ) none (κ := K (c, some (false, e)))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c e)) $$ Hpay
  imod (Rounds.cell_close EX (sched m ρ) (Set.mem_univ (K (c, some (false, e)))) (fun h => h) (R := 0 + 1) (duties_later m ρ (sendCell e c))) $$ [Hat] with Hz
  · isplitr; · iexact HI
    iexact Hat
  iapply Hk
  isplitl [HO]; · iexists _; iexact HO
  isplitl [Hz]; · iexact Hz
  unfold sendPay
  iexact Hp

end Steps

/-! ## Loads and stores -/

section Mem
variable (c : Dev nD)

/-- The rows of a window of the gather buffer are among those of the devices `d` and `d'` of one pair. -/
theorem pair_rows {b : ℕ} {d d' : Dev nD} (h : d.val / 2 = b) (h' : d'.val / 2 = b) (hne : d ≠ d') {off : Fin 2 → ℕ}
    (hoff : off = ![256 * b, 0]) (inb : ∀ a : Fin 2, off a + ![256, 64] a ≤ S1024x64.size a) :
    (Rect.unit (s := S1024x64) off ![256, 64] inb).set ⊆ (rowRect d).set ∪ (rowRect d').set := by
  intro i hi
  rw [Finset.mem_union, mem_rows, mem_rows]
  have h0 : off 0 ≤ rowOf (n := 1024) i ∧ rowOf (n := 1024) i < off 0 + 256 := Rect.mem_set_unit.mp hi 0
  have e0 : off 0 = 256 * b := by rw [hoff]; rfl
  rw [e0] at h0
  have hv : d.val ≠ d'.val := fun hh => hne (Fin.ext hh)
  omega

/-- The load of a pair's 256 rows of the gather buffer, whatever the share at which the two blocks are held. -/
theorem wp_load_pair {b : ℕ} {d d' : Dev nD} (h : d.val / 2 = b) (h' : d'.val / 2 = b) (hne : d ≠ d') {off : Fin 2 → ℕ}
    (hoff : off = ![256 * b, 0]) {inb : ∀ a : Fin 2, off a + ![256, 64] a ≤ S1024x64.size a} {q : PosShare TreeShare}
    {hl : gM.view.LoadsAt (Rect.unit (s := S1024x64) off ![256, 64] inb).toLoadRect} {α : Type}
    {k : ((Rect.unit (s := S1024x64) off ![256, 64] inb).toLoadRect.shape.Idx → Elt F .f32) → Prog (TpuEff nD τ sig (Elt F) Λ₀ .tc) α} {Q : α → sProp 𝕄} :
    iprop(blkPts c d q (GG m ρ) ∗ blkPts c d' q (GG m ρ))
      ⊢ iprop(((blkPts c d q (GG m ρ) ∗ blkPts c d' q (GG m ρ)) -∗ runs c (k (rowsOf 256 (256 * b) (GG m ρ))) Q)
          -∗ runs c (.op (.load gM (Rect.unit (s := S1024x64) off ![256, 64] inb).toLoadRect hl) k) Q) := by
  have hdisj : Disjoint (α := Finset (Idx ((c : Thread nD τ).loc cc0_scratch0))) (rowRect d).set (rowRect d').set := rows_disjoint hne
  unfold blkPts
  iintro ⟨H, H'⟩ Hk
  ihave HH := (pointsTo_union hdisj).2 $$ [H H']
  · isplitl [H] <;> iassumption
  iapply (wp_load 𝒱₀ (c : Thread nD τ) none Set.univ (m := gM) (by
    show (View.whole cc0_scratch0).setOn _ ⊆ _
    refine Finset.Subset.trans ?_ (pair_rows h h' hne hoff inb)
    intro i hi
    obtain ⟨x, hx, rfl⟩ := Finset.mem_map.mp hi
    exact hx)) $$ HH
  rw [read_gather hoff inb (A := GG m ρ) (fun i _ _ => rfl)]
  iintro HH
  iapply Hk
  iapply (pointsTo_union hdisj).1; iexact HH

/-- The merge buffer of core `c`. -/
def mPts (f : FVec F S1024x64 .f32) : sProp 𝕄 := eM.view.loc (c : Thread nD τ) ↦{fullShare} f

/-- A load of rows of the merge buffer. -/
theorem wp_load_merge {n s : ℕ} {off : Fin 2 → ℕ} (hoff : off = ![s, 0]) {inb : ∀ a : Fin 2, off a + ![n, 64] a ≤ S1024x64.size a}
    {A f : FVec F S1024x64 .f32} (h : Agree A f s n)
    {hl : eM.view.LoadsAt (Rect.unit (s := S1024x64) off ![n, 64] inb).toLoadRect} {α : Type}
    {k : ((Rect.unit (s := S1024x64) off ![n, 64] inb).toLoadRect.shape.Idx → Elt F .f32) → Prog (TpuEff nD τ sig (Elt F) Λ₀ .tc) α} {Q : α → sProp 𝕄} :
    mPts c f ⊢ iprop((mPts c f -∗ runs c (k (rowsOf n s A)) Q)
      -∗ runs c (.op (.load eM (Rect.unit (s := S1024x64) off ![n, 64] inb).toLoadRect hl) k) Q) := by
  unfold mPts
  iintro H Hk
  iapply (wp_load 𝒱₀ (c : Thread nD τ) none Set.univ (m := eM) (Finset.subset_univ _)) $$ H
  rw [read_merge hoff inb h]
  iexact Hk

/-- A load of rows of the merge buffer whose value the program does not use. -/
theorem wp_load_unused {n : ℕ} {off : Fin 2 → ℕ} {inb : ∀ a : Fin 2, off a + ![n, 64] a ≤ S1024x64.size a}
    {f : FVec F S1024x64 .f32} {hl : eM.view.LoadsAt (Rect.unit (s := S1024x64) off ![n, 64] inb).toLoadRect} {α : Type}
    {p : Prog (TpuEff nD τ sig (Elt F) Λ₀ .tc) α} {Q : α → sProp 𝕄} :
    mPts c f ⊢ iprop((mPts c f -∗ runs c p Q)
      -∗ runs c (.op (.load eM (Rect.unit (s := S1024x64) off ![n, 64] inb).toLoadRect hl) (fun _ => p)) Q) := by
  unfold mPts
  iintro H Hk
  iapply (wp_load 𝒱₀ (c : Thread nD τ) none Set.univ (m := eM) (Finset.subset_univ _)) $$ H
  iexact Hk

/-- A store of rows of the merge buffer: it then agrees with `A` there, and elsewhere with all it agreed with before. -/
theorem wp_store_merge {n s : ℕ} {off : Fin 2 → ℕ} (hoff : off = ![s, 0]) {inb : ∀ a : Fin 2, off a + ![n, 64] a ≤ S1024x64.size a}
    (A : FVec F S1024x64 .f32) {f : FVec F S1024x64 .f32} {w : FVec F (Blk n) .f32} (hw : w = rowsOf n s A)
    {hx} {hm} {α : Type} {k : PUnit → Prog (TpuEff nD τ sig (Elt F) Λ₀ .tc) α} {Q : α → sProp 𝕄} :
    mPts c f ⊢ iprop((∀ f', ⌜Agree A f' s n ∧ ∀ B s' n', Agree B f s' n' → (s' + n' ≤ s ∨ s + n ≤ s') → Agree B f' s' n'⌝
        -∗ mPts c f' -∗ runs c (k ⟨⟩) Q)
      -∗ runs c (.op (.store eM (Rect.unit (s := S1024x64) off ![n, 64] inb) w Finset.univ hx hm) k) Q) := by
  subst hw
  unfold mPts
  iintro H Hk
  iapply (wp_store 𝒱₀ (c : Thread nD τ) none Set.univ (m := eM) (r := Rect.unit (s := S1024x64) off ![n, 64] inb) (Mk := Finset.univ)
    (Finset.subset_univ _)) $$ H
  iintro H
  iapply Hk $$ [] H
  ipureintro
  exact ⟨write_in hoff inb A f, fun B s' n' h hd => write_off hoff inb _ h hd⟩

/-- The store of the device's own rows of the gather buffer, once its block is sorted. -/
theorem wp_store_own {off : Fin 2 → ℕ} (hoff : off = ![128 * c.val, 0]) {inb : ∀ a : Fin 2, off a + ![128, 64] a ≤ S1024x64.size a}
    {f : FVec F S1024x64 .f32} {w : FVec F (Blk 128) .f32} (hw : w = ownSort (oddBit c.val) (xstg m ρ c))
    {hx} {hm} {α : Type} {k : PUnit → Prog (TpuEff nD τ sig (Elt F) Λ₀ .tc) α} {Q : α → sProp 𝕄} :
    blkPts c c fullShare f ⊢ iprop((blkPts c c fullShare (GG m ρ) -∗ runs c (k ⟨⟩) Q)
      -∗ runs c (.op (.store gM (Rect.unit (s := S1024x64) off ![128, 64] inb) w Finset.univ hx hm) k) Q) := by
  have hrow : w = rowsOf 128 (128 * c.val) (GG m ρ) := by
    unfold GG gathered
    rw [hw, glue_rows 128 (by decide) _ c.val (by have : c.val < 8 := c.isLt; omega), dev_val]
  have hset : (Rect.unit (s := S1024x64) off ![128, 64] inb).set = (rowRect c).set := by
    ext i; rw [Rect.mem_set_unit, Rect.mem_set_unit, hoff, k0_off2_eq]
  have hfin : ∀ i ∈ (rowRect c).set, (gM.access (Rect.unit (s := S1024x64) off ![128, 64] inb)).write (Elt F) f w Finset.univ i
      = GG m ρ i := fun i hi => by
    rw [mem_rows] at hi
    rw [hrow]
    exact write_in hoff inb (GG m ρ) f i hi.1 hi.2
  unfold blkPts
  iintro H Hk
  iapply (wp_store 𝒱₀ (c : Thread nD τ) none Set.univ (m := gM) (r := Rect.unit (s := S1024x64) off ![128, 64] inb) (Mk := Finset.univ)
    (by rw [← hset]; exact (View.set_slice_whole _ _).subset)) $$ H
  iintro H
  iapply Hk
  ihave H' := (Entails.of_eq (pointsTo_congr hfin)) $$ H
  iexact H'

/-- A load of the device's own rows of the gather buffer, before they are stored: any value may come. -/
theorem wp_load_own_unused {off : Fin 2 → ℕ} (hoff : off = ![128 * c.val, 0]) {inb : ∀ a : Fin 2, off a + ![128, 64] a ≤ S1024x64.size a}
    {f : FVec F S1024x64 .f32} {hl : gM.view.LoadsAt (Rect.unit (s := S1024x64) off ![128, 64] inb).toLoadRect} {α : Type}
    {k : ((Rect.unit (s := S1024x64) off ![128, 64] inb).toLoadRect.shape.Idx → Elt F .f32) → Prog (TpuEff nD τ sig (Elt F) Λ₀ .tc) α}
    {Q : α → sProp 𝕄} :
    blkPts c c fullShare f ⊢ iprop((∀ u, blkPts c c fullShare f -∗ runs c (k u) Q)
      -∗ runs c (.op (.load gM (Rect.unit (s := S1024x64) off ![128, 64] inb).toLoadRect hl) k) Q) := by
  have hset : (Rect.unit (s := S1024x64) off ![128, 64] inb).set = (rowRect c).set := by
    ext i; rw [Rect.mem_set_unit, Rect.mem_set_unit, hoff, k0_off2_eq]
  unfold blkPts
  iintro H Hk
  iapply (wp_load 𝒱₀ (c : Thread nD τ) none Set.univ (m := gM) (by
    show (View.whole cc0_scratch0).setOn _ ⊆ _
    rw [← hset]
    intro i hi
    obtain ⟨x, hx, rfl⟩ := Finset.mem_map.mp hi
    exact hx)) $$ H
  iapply Hk

end Mem

end Cert.SortProof
end
-- ==== Proof.Words.lean ====
/-
# The kernel's words and offsets on each device

The kernel computes the direction of a merge, and the rows a load or a store names, from the number of its device. Here
they are evaluated, device by device.
-/
module

public import proofs.«01_k».proof.Proof.Steps

@[expose] public section

noncomputable section

namespace Cert.SortProof

open Cert.KernelIdeal Cert.KernelIdeal.Gen

open Idealize.ShloMosaic

variable {F : FTy → Type} [FloatOps F]

/-- The number of a device as the kernel computes it. -/
def wordOf (c : Dev nD) : BitVec 32 := Scalar.remsi (Scalar.divsi (Dev.word c) 1#32) 8#32

/-! ## Flags -/

theorem flag_own : ∀ c : Dev nD, Scalar.cmpi .eq (Scalar.andi (wordOf c) 1#32) 1#32 = oddBit c.val := by decide +kernel
theorem flag_a : ∀ c : Dev nD, bitOf (Scalar.shrsi (wordOf c) 1#32) = evenBit (c.val / 2) := by decide +kernel
theorem flag_b : ∀ c : Dev nD, bitOf (Scalar.shrsi (Scalar.xori (wordOf c) 2#32) 1#32) = evenBit ((peer 1 c).val / 2) := by
  decide +kernel
theorem flag_c : ∀ c : Dev nD, bitOf (Scalar.shrsi (Scalar.xori (wordOf c) 4#32) 1#32) = evenBit ((peer 3 c).val / 2) := by
  decide +kernel
theorem flag_d : ∀ c : Dev nD, bitOf (Scalar.shrsi (Scalar.xori (wordOf c) 6#32) 1#32) = evenBit ((peer 5 c).val / 2) := by
  decide +kernel
theorem flag_near : ∀ c : Dev nD, bitOf (Scalar.shrsi (wordOf c) 2#32) = evenBit (c.val / 4) := by decide +kernel
theorem flag_far : ∀ c : Dev nD, bitOf (Scalar.shrsi (Scalar.xori (wordOf c) 4#32) 2#32) = evenBit (1 - c.val / 4) := by
  decide +kernel
theorem flag_one : ∀ c : Dev nD, bitOf (wordOf c) = evenBit c.val := by decide +kernel

/-! ## Offsets -/

theorem off1_eq : ∀ c : Dev nD, k0_off1 c = ![128 * c.val, 0] := by decide +kernel
theorem off4_eq : ∀ c : Dev nD, k0_off4 c = ![256 * (c.val / 2), 0] := by decide +kernel
theorem off5b_eq : ∀ c : Dev nD, k0_off5 c 2#32 = ![256 * ((peer 1 c).val / 2), 0] := by decide +kernel
theorem off5c_eq : ∀ c : Dev nD, k0_off5 c 4#32 = ![256 * ((peer 3 c).val / 2), 0] := by decide +kernel
theorem off5d_eq : ∀ c : Dev nD, k0_off5 c 6#32 = ![256 * ((peer 5 c).val / 2), 0] := by decide +kernel
theorem off6_eq : ∀ c : Dev nD, k0_off6 c = ![512 * (c.val / 4), 0] := by decide +kernel
theorem off7_eq : ∀ c : Dev nD, k0_off7 c = ![512 * (1 - c.val / 4), 0] := by decide +kernel
theorem off8_eq : ∀ c : Dev nD, k0_off8 c = ![512 * (c.val / 4), 0] := by decide +kernel
theorem off9_eq : ∀ c : Dev nD, k0_off9 c = ![512 * (1 - c.val / 4), 0] := by decide +kernel
theorem off10_eq : ∀ c : Dev nD, k0_off10 c = ![256 * (c.val / 2), 0] := by decide +kernel
theorem off11_eq : ∀ c : Dev nD, k0_off11 c = ![256 * ((peer 1 c).val / 2), 0] := by decide +kernel
theorem off12_eq : ∀ c : Dev nD, k0_off12 c = ![128 * (peer 0 c).val, 0] := by decide +kernel

/-! ## Which devices make up which runs -/

theorem half_peer0 : ∀ c : Dev nD, (peer 0 c).val / 2 = c.val / 2 := by decide +kernel
theorem half_peer2 : ∀ c : Dev nD, (peer 2 c).val / 2 = (peer 1 c).val / 2 := by decide +kernel
theorem half_peer4 : ∀ c : Dev nD, (peer 4 c).val / 2 = (peer 3 c).val / 2 := by decide +kernel
theorem half_peer6 : ∀ c : Dev nD, (peer 6 c).val / 2 = (peer 5 c).val / 2 := by decide +kernel
theorem peer12_ne : ∀ c : Dev nD, peer 1 c ≠ peer 2 c := by decide +kernel
theorem peer34_ne : ∀ c : Dev nD, peer 3 c ≠ peer 4 c := by decide +kernel
theorem peer56_ne : ∀ c : Dev nD, peer 5 c ≠ peer 6 c := by decide +kernel
theorem near_pair : ∀ c : Dev nD, c.val / 2 + (peer 1 c).val / 2 = 4 * (c.val / 4) + 1 ∧ (c.val / 2) / 2 = c.val / 4
    ∧ ((peer 1 c).val / 2) / 2 = c.val / 4 := by decide +kernel
theorem far_pair : ∀ c : Dev nD, (peer 3 c).val / 2 + (peer 5 c).val / 2 = 4 * (1 - c.val / 4) + 1
    ∧ ((peer 3 c).val / 2) / 2 = 1 - c.val / 4 ∧ ((peer 5 c).val / 2) / 2 = 1 - c.val / 4 := by decide +kernel
theorem far_half : ∀ c : Dev nD, 1 - c.val / 4 = if (c.val / 4) % 2 = 0 then c.val / 4 + 1 else c.val / 4 - 1 := by decide +kernel
theorem near_quarter : ∀ c : Dev nD,
    (peer 1 c).val / 2 = if (c.val / 2) % 2 = 0 then c.val / 2 + 1 else c.val / 2 - 1 := by decide +kernel
theorem near_eighth : ∀ c : Dev nD, (peer 0 c).val = if c.val % 2 = 0 then c.val + 1 else c.val - 1 := by decide +kernel

/-- Two runs of 256 rows side by side are a run of 512. -/
theorem Agree.pair {A f : FVec F S1024x64 .f32} {a b h : ℕ} (hab : a + b = 4 * h + 1 ∧ a / 2 = h ∧ b / 2 = h)
    (ha : Agree A f (256 * a) 256) (hb : Agree A f (256 * b) 256) : Agree A f (512 * h) 512 := fun i h1 h2 => by
  by_cases hc : 256 * a ≤ rowOf (n := 1024) i ∧ rowOf (n := 1024) i < 256 * a + 256
  · exact ha i hc.1 hc.2
  · exact hb i (by omega) (by omega)

/-- The kernel's choice between the smaller and the larger of two runs is the compare-exchange between them. -/
theorem select_across (n : ℕ) (hn : 0 < n) (A : FVec F S1024x64 .f32) {b b' : ℕ} (hb : n * b + n ≤ 1024)
    (hb' : b' = if b % 2 = 0 then b + 1 else b - 1) :
    Scalar.select (evenBit b) (minimumf (rowsOf n (n * b) A) (rowsOf n (n * b') A))
      (maximumf (rowsOf n (n * b) A) (rowsOf n (n * b') A)) = rowsOf n (n * b) (across n hn A) := by
  unfold across
  rw [glue_rows n hn _ b hb]
  subst hb'
  unfold evenBit
  by_cases h : b % 2 = 0
  · rw [if_pos h, if_pos h, if_pos h]; rfl
  · rw [if_neg h, if_neg h, if_neg h]; rfl

theorem merged₂_rows (X : Dev nD → FVec F S128x64 .f32) {b : ℕ} (hb : b < 4) :
    merge₂ (evenBit b) (rowsOf 256 (256 * b) (gathered X)) = rowsOf 256 (256 * b) (merged₂ X) := by
  unfold merged₂; rw [glue_rows 256 (by decide) _ b (by omega)]
theorem merged₅_rows (X : Dev nD → FVec F S128x64 .f32) {b : ℕ} (hb : b < 2) :
    merge₅ (evenBit b) (rowsOf 512 (512 * b) (merged₂ X)) = rowsOf 512 (512 * b) (merged₅ X) := by
  unfold merged₅; rw [glue_rows 512 (by decide) _ b (by omega)]

end Cert.SortProof
end
-- ==== Proof.PartsA.lean ====
/-
# The kernel's parts, first half: the barrier, the own sort and the copies

Each part of the printed kernel that has an effect, passed by the rules of `Steps`: what it needs, what it leaves, and
what it returns.
-/
module

public import proofs.«01_k».proof.Proof.Words
public import proofs.«01_k».proof.Proof.Gen.KernelIdeal.Skeleton

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

theorem hz : (![0, 0] : Fin 2 → ℕ) = fun _ => 0 := by decide

/-- A finished program has run, -/
theorem runs_done {α : Type} {a : α} {Q : α → sProp 𝕄} : Q a ⊢ runs c (.ret a) Q := by
  rw [runs, wp_ret]; iintro H; imodintro; iexact H
/-- a program in two steps runs step by step, -/
theorem runs_bind {α β : Type} {p : Prog (TpuEff nD τ sig (Elt F) Λ₀ .tc) α} {k : α → Prog (TpuEff nD τ sig (Elt F) Λ₀ .tc) β}
    {Q : β → sProp 𝕄} : runs c p (fun a => runs c (k a) Q) ⊢ runs c (p >>= k) Q := by
  rw [runs, runs, wp_bind]
/-- and a pure step is its value. -/
theorem runs_pure {α β : Type} {a : α} {p : Prog (TpuEff nD τ sig (Elt F) Λ₀ .tc) α} (hp : p = pure a)
    {k : α → Prog (TpuEff nD τ sig (Elt F) Λ₀ .tc) β} {Q : β → sProp 𝕄} : runs c (k a) Q ⊢ runs c (p >>= k) Q := by
  subst hp
  exact (runs_done c (Q := fun a => runs c (k a) Q)).trans (runs_bind c)

/-- Loads and stores of a whole staging buffer. -/
theorem read_x (f : FVec F S128x64 .f32) : xM.view.readAt (Elt F)
    (Rect.unit (s := S128x64) ![0, 0] S128x64.size inb_S128x64_S128x64_0_0).toLoadRect f = f :=
  Memref.readAt_unit_zero (Elt F) cc0_stg0_0 hz _ f
theorem write_o (f w : FVec F S128x64 .f32) : (oM.access
    (Rect.unit (s := S128x64) ![0, 0] S128x64.size inb_S128x64_S128x64_0_0)).write (Elt F) f w Finset.univ = w :=
  Memref.write_access_unit_zero_univ (Elt F) cc0_stg1_0 hz _ f w

/-- What the input's, the output's staging buffer hold. -/
def xPts (f : FVec F S128x64 .f32) : sProp 𝕄 := ((c : Thread nD τ).loc cc0_stg0_0) ↦{fullShare} f
def oPts (f : FVec F S128x64 .f32) : sProp 𝕄 := ((c : Thread nD τ).loc cc0_stg1_0) ↦{fullShare} f

/-- The right to signal peer `e`, with the rows that the signal hands over. -/
def signalRight (e : Fin 7) : sProp 𝕄 := iprop(dutyTok EX (barCell (peer e c)) 0 e ∗ (∃ f, blkPts c (peer e c) fullShare f))
/-- The right to copy to peer `e`. -/
def copyRight (e : Fin 7) : sProp 𝕄 := iprop(dutyTok EX (sendCell e c) 0 e ∗ dutyTok EX (recvCell e (peer e c)) 0 e)

theorem wp_signal_right {e : Fin 7} {l : List (Fin 7)} {d : Dev nD} (hd : d = peer e c) {n : ℤ} (hn : n = ((1 : ℕ) : ℤ))
    {α : Type} {k : PUnit → Prog (TpuEff nD τ sig (Elt F) Λ₀ .tc) α} {Q : α → sProp 𝕄} :
    iprop(records m ρ K ∗ debt c (owedB c (e :: l)) ∗ signalRight c e)
      ⊢ iprop((debt c (owedB c l) -∗ runs c (k ⟨⟩) Q) -∗ runs c (.op (.semSignal (d : Thread nD τ) barS n) k) Q) := by
  unfold signalRight
  exact wp_signal_peer m ρ K c e hd hn

/-- Part 1: six of the seven signals. -/
theorem part1_runs {Q : (Σ' (d0 : Dev nD) (v2 : BitVec 32) (v3 : Sems sig S_), BitVec 32) → sProp 𝕄} :
    iprop(records m ρ K ∗ debt c (owed₀ c) ∗ signalRight c 0 ∗ signalRight c 1 ∗ signalRight c 2 ∗ signalRight c 3
        ∗ signalRight c 4 ∗ signalRight c 5)
      ⊢ iprop((debt c (owedB c [6]) -∗ Q ⟨c, wordOf c, SemArray.scalar (sig.barrier 0 rfl),
            Scalar.muli (Scalar.xori (wordOf c) 7#32) 1#32⟩)
          -∗ runs c (k0_part1 (F := F) xM (Memref.isWhole_whole _) oM (Memref.isWhole_whole _) gM (Memref.isWhole_whole _) eM (Memref.isWhole_whole _) cc0_scratch2 cc0_scratch3) Q) := by
  rw [k0_part1_eq_skeleton]; unfold k0_part1_skel
  simp only [semSignalWord, Prog.lift, Prog.bind_op, Prog.bind_ret, Prog.pure_eq_ret, wp_deviceId]
  have hw : Scalar.remsi (Scalar.divsi (Dev.word c) 1#32) 8#32 = wordOf c := rfl
  simp only [hw]
  unfold owed₀
  iintro ⟨#HR, HO, S0, S1, S2, S3, S4, S5⟩ Hk
  iapply (wp_signal_right m ρ K c (e := 0) (l := [1, 2, 3, 4, 5, 6]) (dev1_eq c) (by decide)) $$ [HO S0]
  · isplitr; · iexact HR
    isplitl [HO] <;> iassumption
  iintro HO
  iapply (wp_signal_right m ρ K c (e := 1) (l := [2, 3, 4, 5, 6]) (dev2_eq c) (by decide)) $$ [HO S1]
  · isplitr; · iexact HR
    isplitl [HO] <;> iassumption
  iintro HO
  iapply (wp_signal_right m ρ K c (e := 2) (l := [3, 4, 5, 6]) (dev3_eq c) (by decide)) $$ [HO S2]
  · isplitr; · iexact HR
    isplitl [HO] <;> iassumption
  iintro HO
  iapply (wp_signal_right m ρ K c (e := 3) (l := [4, 5, 6]) (dev4_eq c) (by decide)) $$ [HO S3]
  · isplitr; · iexact HR
    isplitl [HO] <;> iassumption
  iintro HO
  iapply (wp_signal_right m ρ K c (e := 4) (l := [5, 6]) (dev5_eq c) (by decide)) $$ [HO S4]
  · isplitr; · iexact HR
    isplitl [HO] <;> iassumption
  iintro HO
  iapply (wp_signal_right m ρ K c (e := 5) (l := [6]) (dev6_eq c) (by decide)) $$ [HO S5]
  · isplitr; · iexact HR
    isplitl [HO] <;> iassumption
  iintro HO
  iapply (runs_done c)
  iapply Hk
  iexact HO

/-- Part 2: the seventh signal, the barrier's wait, and the first stage of the own sort. -/
theorem part2_runs {w : BitVec 32} {Q : (Σ' (v28 : BitVec 1) (v29 : IVec S128x64 32) (v47 : FVec F S128x64 .f32) (v60 : FVec F S128x64 .f32), IVec S128x64 1) → sProp 𝕄} :
    iprop(records m ρ K ∗ debt c (owedB c [6]) ∗ signalRight c 6 ∗ levAts L lv ∗ cred (tallyAt (barCell c) () 7)
        ∗ atPos EX (barCell c) 0 ∅ 0 ∗ xPts c (xstg m ρ c))
      ⊢ iprop(((debt c (owedR c order) ∗ semVal (barCell c) 0 ∗ xPts c (xstg m ρ c)
            ∗ barPay 0 c ∗ barPay 1 c ∗ barPay 2 c ∗ barPay 3 c ∗ barPay 4 c ∗ barPay 5 c ∗ barPay 6 c)
            -∗ Q ⟨oddBit c.val, I₁, own (oddBit c.val) 2#32 1#32 127#32 (xstg m ρ c),
              meets rotates_S128x64_d0 I₁ 2#32 126#32 (own (oddBit c.val) 2#32 1#32 127#32 (xstg m ρ c)),
              xori (lowRow I₁ 2#32) (runDir (oddBit c.val) 4#32)⟩)
          -∗ runs c (k0_part2 (F := F) xM (Memref.isWhole_whole _) oM (Memref.isWhole_whole _) gM (Memref.isWhole_whole _) eM (Memref.isWhole_whole _) cc0_scratch2 cc0_scratch3 c (wordOf c) (SemArray.scalar (sig.barrier 0 rfl)) w) Q) := by
  rw [k0_part2_eq_skeleton]; unfold k0_part2_skel
  simp only [semSignalWord, semWaitWord, Prog.lift, Prog.bind_op, Prog.bind_ret, Prog.pure_eq_ret]
  iintro ⟨#HR, HO, S6, #Hlev, Hc, Hat, Hx⟩ Hk
  iapply (wp_signal_right m ρ K c (e := 6) (l := []) (dev7_eq c) (by decide)) $$ [HO S6]
  · isplitr; · iexact HR
    isplitl [HO] <;> iassumption
  iintro HO
  iapply (wp_wait_barrier m ρ K c (by decide)) $$ [HO Hc Hat]
  · isplitr; · iexact HR
    isplitl [HO]; · iexact HO
    isplitr; · iexact Hlev
    isplitl [Hc] <;> iassumption
  iintro ⟨HO, Hz, Hp⟩
  unfold xPts
  iapply (wp_load 𝒱₀ (c : Thread nD τ) none Set.univ (m := xM) (Finset.subset_univ _)) $$ Hx; iintro Hx
  rw [read_x]
  rw [first_meets, first_mask, first_eq, flag_own]
  iapply (runs_done c)
  iapply Hk
  isplitl [HO]; · iexact HO
  isplitl [Hz]; · iexact Hz
  isplitl [Hx] <;> iassumption

/-- Part 13: the rows to be stored, read first; and the last stages of the own sort. -/
theorem part13_runs {w : BitVec 32} {v : FVec F S128x64 .f32} {Q : (Σ' (v533 : FVec F S128x64 .f32), Vec F S128x64 .f32) → sProp 𝕄}
    {f : FVec F S1024x64 .f32} :
    blkPts c c fullShare f
      ⊢ iprop((∀ u, blkPts c c fullShare f -∗ Q ⟨own (oddBit c.val) 128#32 1#32 127#32 (own (oddBit c.val) 128#32 2#32 126#32
            (own (oddBit c.val) 128#32 4#32 124#32 v)), u⟩)
          -∗ runs c (k0_part13 (F := F) xM (Memref.isWhole_whole _) oM (Memref.isWhole_whole _) gM (Memref.isWhole_whole _) eM (Memref.isWhole_whole _) cc0_scratch2 cc0_scratch3 c w (oddBit c.val) I₁ v (meets rotates_S128x64_d0 I₁ 4#32 124#32 v)
            (xori (lowRow I₁ 4#32) (runDir (oddBit c.val) 128#32))) Q) := by
  rw [k0_part13_eq_skeleton]; unfold k0_part13_skel
  simp only [Prog.lift, Prog.bind_op, Prog.bind_ret, Prog.pure_eq_ret, own_last]
  iintro Hb Hk
  iapply (wp_load_own_unused c (off1_eq c)) $$ Hb
  iintro %u Hb
  iapply (runs_done c)
  iapply Hk
  iexact Hb

/-- The own rows' shares: the half that stays and the half that is dealt, and each copy's share of what is left. -/
theorem deal_own {f : FVec F S1024x64 .f32} : (blkPts c c fullShare f : sProp 𝕄)
    ⊣⊢ iprop(blkPts c c (fullShare : PosShare TreeShare).left f ∗ blkPts c c (rest 0) f) := by
  unfold blkPts; exact pointsTo_share (PosShare.mem_left_op_right _)
theorem deal_copy {f : FVec F S1024x64 .f32} (e : Fin 7) : (blkPts c c (rest e.val) f : sProp 𝕄)
    ⊣⊢ iprop(blkPts c c (copyShare e) f ∗ blkPts c c (rest (e.val + 1)) f) := by
  unfold blkPts; exact pointsTo_share (PosShare.mem_left_op_right _)
/-- A peer's rows in two halves. -/
theorem halve (d : Dev nD) {f : FVec F S1024x64 .f32} : (blkPts c d fullShare f : sProp 𝕄)
    ⊣⊢ iprop(blkPts c d (fullShare : PosShare TreeShare).left f ∗ blkPts c d (fullShare : PosShare TreeShare).right f) := by
  unfold blkPts; exact pointsTo_share (PosShare.mem_left_op_right _)

/-- A copy to peer `e`, with its share of the own rows dealt on the spot. -/
theorem wp_copy_right {e : Fin 7} {l : List (Fin 7)} {d : Dev nD} (hd : d = peer e c) {sS rS : DmaSem sig} (hsS : sS = sendS e) (hrS : rS = recvS e)
    {hsc : (blkM c : Memref sig (Dev.tc d : Thread nD τ).2.kind .vmem S128x64 .f32).view.ref.isScScratch = false}
    {hsrc : (blkM c).view.WordExact} {hdst : (blkM c : Memref sig (Dev.tc d : Thread nD τ).2.kind .vmem S128x64 .f32).view.WordExact}
    {hsem : DmaTarget.Typed .vmem (.dma rS) (.remote (Dev.tc d : Thread nD τ) (blkM c) (.dma sS) hsc)}
    {α : Type} {k : PUnit → Prog (TpuEff nD τ sig (Elt F) Λ₀ .tc) α} {Q : α → sProp 𝕄} :
    iprop(records m ρ K ∗ debt c (owedR c (e :: l)) ∗ copyRight c e ∗ barPay e c ∗ blkPts c c (rest e.val) (GG m ρ))
      ⊢ iprop(((cred (tallyAt (sendCell e c) () N) ∗ debt c (owedR c l) ∗ blkPts c c (rest (e.val + 1)) (GG m ρ)) -∗ runs c (k ⟨⟩) Q)
          -∗ runs c (.op (.enqueueDma (blkM c) (.remote (Dev.tc d : Thread nD τ) (blkM c) (.dma sS) hsc) (.dma rS) hsrc hdst hsem) k) Q) := by
  unfold copyRight
  iintro ⟨#HR, HO, ⟨Ht, Ht'⟩, Hp, Hb⟩ Hk
  ihave Hb' := (deal_copy c e).1 $$ Hb
  icases Hb' with ⟨Hx, Hb⟩
  iapply (wp_copy_peer m ρ K c e hd hsS hrS) $$ [HO Ht Ht' Hp Hx]
  · isplitr; · iexact HR
    isplitl [HO]; · iexact HO
    isplitl [Ht]; · iexact Ht
    isplitl [Ht']; · iexact Ht'
    isplitl [Hx] <;> iassumption
  iintro ⟨Hc, HO⟩
  iapply Hk
  isplitl [Hc]; · iexact Hc
  isplitl [HO] <;> iassumption

/-- Part 14: the sorted block is stored, and the first two copies start. -/
theorem part14_runs {w : BitVec 32} {v u : FVec F S128x64 .f32} (hv : v = ownSort (oddBit c.val) (xstg m ρ c))
    {Q : (Σ' (v553 : BitVec 32), BitVec 32) → sProp 𝕄} {f : FVec F S1024x64 .f32} :
    iprop(records m ρ K ∗ debt c (owedR c order) ∗ blkPts c c fullShare f ∗ copyRight c 0 ∗ copyRight c 1 ∗ barPay 0 c ∗ barPay 1 c)
      ⊢ iprop(((debt c (owedR c [2, 3, 4, 5, 6]) ∗ blkPts c c (fullShare : PosShare TreeShare).left (GG m ρ)
            ∗ blkPts c c (rest 2) (GG m ρ) ∗ cred (tallyAt (sendCell 0 c) () N) ∗ cred (tallyAt (sendCell 1 c) () N))
            -∗ Q ⟨Scalar.xori w 1#32, 2#32⟩)
          -∗ runs c (k0_part14 (F := F) xM (Memref.isWhole_whole _) oM (Memref.isWhole_whole _) gM (Memref.isWhole_whole _) eM (Memref.isWhole_whole _) cc0_scratch2 cc0_scratch3 c w v u) Q) := by
  rw [k0_part14_eq_skeleton]; unfold k0_part14_skel
  simp only [Prog.lift, Prog.bind_op, Prog.bind_ret, Prog.pure_eq_ret, stored₁]
  iintro ⟨#HR, HO, Hb, S0, S1, P0, P1⟩ Hk
  iapply (wp_store_own m ρ c (off1_eq c) hv) $$ Hb
  iintro Hb
  ihave Hb' := (deal_own c).1 $$ Hb
  icases Hb' with ⟨Hl, Hb⟩
  iapply (wp_copy_right m ρ K c (e := 0) (l := [1,2,3,4,5,6]) (dev8_eq c) rfl rfl) $$ [HO S0 P0 Hb]
  · isplitr; · iexact HR
    isplitl [HO]; · iexact HO
    isplitl [S0]; · iexact S0
    isplitl [P0]; · iexact P0
    iexact Hb
  iintro ⟨C0, HO, Hb⟩
  iapply (wp_copy_right m ρ K c (e := 1) (l := [2,3,4,5,6]) (dev9_eq c) rfl rfl) $$ [HO S1 P1 Hb]
  · isplitr; · iexact HR
    isplitl [HO]; · iexact HO
    isplitl [S1]; · iexact S1
    isplitl [P1]; · iexact P1
    iexact Hb
  iintro ⟨C1, HO, Hb⟩
  iapply (runs_done c)
  iapply Hk
  isplitl [HO]; · iexact HO
  isplitl [Hl]; · iexact Hl
  isplitl [Hb]; · iexact Hb
  isplitl [C0] <;> iassumption

/-- Part 15: two more copies. -/
theorem part15_runs {w : BitVec 32} {Q : (Σ' (v568 : BitVec 32) (v583 : BitVec 32) (v598 : BitVec 32), BitVec 32) → sProp 𝕄} :
    iprop(records m ρ K ∗ debt c (owedR c [2, 3, 4, 5, 6]) ∗ blkPts c c (rest 2) (GG m ρ) ∗ copyRight c 2 ∗ copyRight c 3 ∗ barPay 2 c ∗ barPay 3 c)
      ⊢ iprop(((debt c (owedR c [4, 5, 6]) ∗ blkPts c c (rest 4) (GG m ρ)
            ∗ cred (tallyAt (sendCell 2 c) () N) ∗ cred (tallyAt (sendCell 3 c) () N))
            -∗ Q ⟨Scalar.xori w 2#32, Scalar.xori w 3#32, Scalar.xori w 4#32, 128#32⟩)
          -∗ runs c (k0_part15 (F := F) xM (Memref.isWhole_whole _) oM (Memref.isWhole_whole _) gM (Memref.isWhole_whole _) eM (Memref.isWhole_whole _) cc0_scratch2 cc0_scratch3 c w 2#32) Q) := by
  rw [k0_part15_eq_skeleton]; unfold k0_part15_skel
  simp only [Prog.lift, Prog.bind_op, Prog.bind_ret, Prog.pure_eq_ret]
  iintro ⟨#HR, HO, Hb, S2, S3, P2, P3⟩ Hk
  iapply (wp_copy_right m ρ K c (e := 2) (l := [3,4,5,6]) (dev10_eq c) rfl rfl) $$ [HO S2 P2 Hb]
  · isplitr; · iexact HR
    isplitl [HO]; · iexact HO
    isplitl [S2]; · iexact S2
    isplitl [P2]; · iexact P2
    iexact Hb
  iintro ⟨C2, HO, Hb⟩
  iapply (wp_copy_right m ρ K c (e := 3) (l := [4,5,6]) (dev11_eq c) rfl rfl) $$ [HO S3 P3 Hb]
  · isplitr; · iexact HR
    isplitl [HO]; · iexact HO
    isplitl [S3]; · iexact S3
    isplitl [P3]; · iexact P3
    iexact Hb
  iintro ⟨C3, HO, Hb⟩
  iapply (runs_done c)
  iapply Hk
  isplitl [HO]; · iexact HO
  isplitl [Hb]; · iexact Hb
  isplitl [C2] <;> iassumption

/-- Part 16: two more copies. -/
theorem part16_runs {w u : BitVec 32} {Q : (Σ' (v613 : BitVec 32) (v628 : BitVec 32), BitVec 32) → sProp 𝕄} :
    iprop(records m ρ K ∗ debt c (owedR c [4, 5, 6]) ∗ blkPts c c (rest 4) (GG m ρ) ∗ copyRight c 4 ∗ copyRight c 5 ∗ barPay 4 c ∗ barPay 5 c)
      ⊢ iprop(((debt c (owedR c [6]) ∗ blkPts c c (rest 6) (GG m ρ)
            ∗ cred (tallyAt (sendCell 4 c) () N) ∗ cred (tallyAt (sendCell 5 c) () N))
            -∗ Q ⟨Scalar.xori w 5#32, Scalar.xori w 6#32, 128#32⟩)
          -∗ runs c (k0_part16 (F := F) xM (Memref.isWhole_whole _) oM (Memref.isWhole_whole _) gM (Memref.isWhole_whole _) eM (Memref.isWhole_whole _) cc0_scratch2 cc0_scratch3 c w u) Q) := by
  rw [k0_part16_eq_skeleton]; unfold k0_part16_skel
  simp only [Prog.lift, Prog.bind_op, Prog.bind_ret, Prog.pure_eq_ret]
  iintro ⟨#HR, HO, Hb, S4, S5, P4, P5⟩ Hk
  iapply (wp_copy_right m ρ K c (e := 4) (l := [5,6]) (dev12_eq c) rfl rfl) $$ [HO S4 P4 Hb]
  · isplitr; · iexact HR
    isplitl [HO]; · iexact HO
    isplitl [S4]; · iexact S4
    isplitl [P4]; · iexact P4
    iexact Hb
  iintro ⟨C4, HO, Hb⟩
  iapply (wp_copy_right m ρ K c (e := 5) (l := [6]) (dev13_eq c) rfl rfl) $$ [HO S5 P5 Hb]
  · isplitr; · iexact HR
    isplitl [HO]; · iexact HO
    isplitl [S5]; · iexact S5
    isplitl [P5]; · iexact P5
    iexact Hb
  iintro ⟨C5, HO, Hb⟩
  iapply (runs_done c)
  iapply Hk
  isplitl [HO]; · iexact HO
  isplitl [Hb]; · iexact Hb
  isplitl [C4] <;> iassumption

/-- Part 17: the last copy, the wait for the neighbour's rows, and the load of the own pair's rows. -/
theorem part17_runs {u : BitVec 32} {u' : BitVec 32}
    {Q : (Σ' (v643 : BitVec 32) (v651 : BitVec 32) (v653 : Vec F S256x64 .f32) (v654 : IVec S256x64 32) (v657 : BitVec 1) (v661 : IVec S256x64 1), BitVec 32) → sProp 𝕄} :
    iprop(records m ρ K ∗ debt c (owedR c [6]) ∗ blkPts c c (rest 6) (GG m ρ) ∗ copyRight c 6 ∗ barPay 6 c
        ∗ cred (tallyAt (recvCell 0 c) () N) ∗ atPos EX (recvCell 0 c) 0 ∅ 0 ∗ blkPts c c (fullShare : PosShare TreeShare).left (GG m ρ))
      ⊢ iprop(((debt c 0 ∗ blkPts c c (rest 7) (GG m ρ) ∗ cred (tallyAt (sendCell 6 c) () N) ∗ semVal (recvCell 0 c) 0
            ∗ blkPts c c (fullShare : PosShare TreeShare).left (GG m ρ) ∗ blkPts c (peer 0 c) fullShare (GG m ρ))
            -∗ Q ⟨Scalar.xori (wordOf c) 7#32, Scalar.muli (Scalar.andi (wordOf c) 4294967294#32) 128#32,
              rowsOf 256 (256 * (c.val / 2)) (GG m ρ), I₂, evenBit (c.val / 2), k0_pay35, 128#32⟩)
          -∗ runs c (k0_part17 (F := F) xM (Memref.isWhole_whole _) oM (Memref.isWhole_whole _) gM (Memref.isWhole_whole _) eM (Memref.isWhole_whole _) cc0_scratch2 cc0_scratch3 c (wordOf c) u u') Q) := by
  rw [k0_part17_eq_skeleton]; unfold k0_part17_skel
  simp only [Prog.lift, Prog.bind_op, Prog.bind_ret, Prog.pure_eq_ret]
  iintro ⟨#HR, HO, Hb, S6, P6, Hc, Hat, Hl⟩ Hk
  iapply (wp_copy_right m ρ K c (e := 6) (l := []) (dev14_eq c) rfl rfl) $$ [HO S6 P6 Hb]
  · isplitr; · iexact HR
    isplitl [HO]; · iexact HO
    isplitl [S6]; · iexact S6
    isplitl [P6]; · iexact P6
    iexact Hb
  iintro ⟨C6, HO, Hb⟩
  iapply (wp_wait_rows m ρ K c 0 rfl) $$ [HO Hc Hat]
  · isplitr; · iexact HR
    isplitl [HO]; · iexact HO
    isplitl [Hc] <;> iassumption
  iintro ⟨HO, Hz, Hn⟩
  ihave Hn' := (halve c (peer 0 c)).1 $$ Hn
  icases Hn' with ⟨Hn, Hn2⟩
  iapply (wp_load_pair m ρ c (b := c.val / 2) (d := c) (d' := peer 0 c) rfl (half_peer0 c) (peer_ne 0 c).symm (off4_eq c)) $$ [Hl Hn]
  · isplitl [Hl] <;> iassumption
  iintro ⟨Hl, Hn⟩
  iapply (runs_done c)
  have hf : Scalar.cmpi .eq (Scalar.andi (Scalar.shrsi (wordOf c) 1#32) 1#32) 0#32 = evenBit (c.val / 2) := flag_a c
  rw [hf]
  iapply Hk
  isplitl [HO]; · iexact HO
  isplitl [Hb]; · iexact Hb
  isplitl [C6]; · iexact C6
  isplitl [Hz]; · iexact Hz
  isplitl [Hl]; · iexact Hl
  iapply (halve c (peer 0 c)).2
  isplitl [Hn] <;> iassumption

end Cert.SortProof
end
-- ==== Proof.PartsB.lean ====
/-
# The kernel's parts, second half: the merges, the stages between runs and the closing sort

Each remaining part of the printed kernel that has an effect: what it needs, what it leaves, and what it returns. The
merge buffer is described by the arrays of `Contents` it agrees with on runs of rows.
-/
module

public import proofs.«01_k».proof.Proof.PartsA

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-- The arrays of this launch: its runs of 256 rows merged, of 512 rows merged, and after each stage between runs. -/
abbrev A₂ : FVec F S1024x64 .f32 := merged₂ (xstg m ρ)
abbrev A₅ : FVec F S1024x64 .f32 := merged₅ (xstg m ρ)
abbrev B₅ : FVec F S1024x64 .f32 := after₅ (xstg m ρ)
abbrev B₂ : FVec F S1024x64 .f32 := after₂ (xstg m ρ)
abbrev B₁ : FVec F S1024x64 .f32 := after₁ (xstg m ρ)

/-- Part 20: the own pair's merged rows are stored, and two peers' rows awaited. -/
theorem part20_runs {u₁ u₂ u₃ : BitVec 32} {v : FVec F S256x64 .f32}
    (hv : two (evenBit (c.val / 2)) 1#32 255#32 (two (evenBit (c.val / 2)) 2#32 254#32 v) = rowsOf 256 (256 * (c.val / 2)) (A₂ m ρ))
    {Q : (Σ' (v786 : BitVec 32), BitVec 32) → sProp 𝕄} {f : FVec F S1024x64 .f32} :
    iprop(records m ρ K ∗ debt c 0 ∗ mPts c f ∗ cred (tallyAt (recvCell 1 c) () N) ∗ atPos EX (recvCell 1 c) 0 ∅ 0 ∗ cred (tallyAt (recvCell 2 c) () N) ∗ atPos EX (recvCell 2 c) 0 ∅ 0)
      ⊢ iprop((∀ f', ⌜Agree (A₂ m ρ) f' (256 * (c.val / 2)) 256⌝ -∗ (debt c 0 ∗ mPts c f' ∗ semVal (recvCell 1 c) 0 ∗ blkPts c (peer 1 c) fullShare (GG m ρ) ∗ semVal (recvCell 2 c) 0 ∗ blkPts c (peer 2 c) fullShare (GG m ρ))
            -∗ Q ⟨Scalar.xori (wordOf c) 2#32, 4294967294#32⟩)
          -∗ runs c (k0_part20 (F := F) xM (Memref.isWhole_whole _) oM (Memref.isWhole_whole _) gM (Memref.isWhole_whole _) eM (Memref.isWhole_whole _) cc0_scratch2 cc0_scratch3 c (wordOf c) u₁ u₂ u₃ I₂ (evenBit (c.val / 2)) v (lowRow I₂ 2#32)
            (meets rotates_S256x64_d0 I₂ 2#32 254#32 v) (dir₂ (evenBit (c.val / 2)))) Q) := by
  rw [k0_part20_eq_skeleton]; unfold k0_part20_skel
  simp only [Prog.lift, Prog.bind_op, Prog.bind_ret, Prog.pure_eq_ret, last_a]
  iintro ⟨#HR, HO, He, Hc1, Hat1, Hc2, Hat2⟩ Hk
  iapply (wp_load_unused c) $$ He; iintro He
  iapply (wp_store_merge c (off4_eq c) (A₂ m ρ) hv) $$ He
  iintro %f' %hf He
  iapply (wp_wait_rows m ρ K c 1 rfl) $$ [HO Hc1 Hat1]
  · isplitr; · iexact HR
    isplitl [HO]; · iexact HO
    isplitl [Hc1] <;> iassumption
  iintro ⟨HO, Hz1, Hn1⟩
  iapply (wp_wait_rows m ρ K c 2 rfl) $$ [HO Hc2 Hat2]
  · isplitr; · iexact HR
    isplitl [HO]; · iexact HO
    isplitl [Hc2] <;> iassumption
  iintro ⟨HO, Hz2, Hn2⟩
  iapply (runs_done c)
  iapply Hk $$ []
  · ipureintro; exact hf.1
  isplitl [HO]; · iexact HO
  isplitl [He]; · iexact He
  isplitl [Hz1]; · iexact Hz1
  isplitl [Hn1]; · iexact Hn1
  isplitl [Hz2] <;> iassumption

/-- Part 21: the other pair's rows of the near half are loaded and their merge begun. -/
theorem part21_runs {Q : (Σ' (v788 : BitVec 32) (v791 : IVec S256x64 32) (v794 : BitVec 1) (v822 : FVec F S256x64 .f32) (v826 : IVec S256x64 1) (v827 : FVec F S256x64 .f32), BitVec 32) → sProp 𝕄} :
    iprop(blkPts c (peer 1 c) fullShare (GG m ρ) ∗ blkPts c (peer 2 c) fullShare (GG m ρ))
      ⊢ iprop(((blkPts c (peer 1 c) fullShare (GG m ρ) ∗ blkPts c (peer 2 c) fullShare (GG m ρ))
            -∗ Q ⟨Scalar.muli (Scalar.andi (Scalar.xori (wordOf c) 2#32) 4294967294#32) 128#32, I₂, evenBit ((peer 1 c).val / 2),
              two (evenBit ((peer 1 c).val / 2)) 64#32 192#32 (two (evenBit ((peer 1 c).val / 2)) 128#32 128#32
                (rowsOf 256 (256 * ((peer 1 c).val / 2)) (GG m ρ))),
              lowRow I₂ 32#32,
              dynamicRotate 0 224#32 none (two (evenBit ((peer 1 c).val / 2)) 64#32 192#32 (two (evenBit ((peer 1 c).val / 2)) 128#32 128#32
                (rowsOf 256 (256 * ((peer 1 c).val / 2)) (GG m ρ)))) rotates_S256x64_d0, 32#32⟩)
          -∗ runs c (k0_part21 (F := F) xM (Memref.isWhole_whole _) oM (Memref.isWhole_whole _) gM (Memref.isWhole_whole _) eM (Memref.isWhole_whole _) cc0_scratch2 cc0_scratch3 c (Scalar.xori (wordOf c) 2#32) 4294967294#32) Q) := by
  rw [k0_part21_eq_skeleton]; unfold k0_part21_skel
  simp only [Prog.lift, Prog.bind_op, Prog.bind_ret, Prog.pure_eq_ret, begin_b_rot, begin_b, begin_b_low, flag_b]
  iintro ⟨Hn1, Hn2⟩ Hk
  iapply (wp_load_pair m ρ c (b := (peer 1 c).val / 2) (d := peer 1 c) (d' := peer 2 c) rfl (half_peer2 c) (peer12_ne c) (off5b_eq c)) $$ [Hn1 Hn2]
  · isplitl [Hn1] <;> iassumption
  iintro H
  iapply (runs_done c)
  iapply Hk
  iexact H

/-- Part 23: they are stored, and the near half is loaded. -/
theorem part23_runs {u : BitVec 32} {v : FVec F S256x64 .f32}
    (hv : two (evenBit ((peer 1 c).val / 2)) 1#32 255#32 (two (evenBit ((peer 1 c).val / 2)) 2#32 254#32
      (two (evenBit ((peer 1 c).val / 2)) 4#32 252#32 v)) = rowsOf 256 (256 * ((peer 1 c).val / 2)) (A₂ m ρ))
    {Q : (Σ' (v912 : BitVec 32) (v914 : Vec F S512x64 .f32) (v915 : IVec S512x64 32), BitVec 32) → sProp 𝕄} {f : FVec F S1024x64 .f32}
    (hf : Agree (A₂ m ρ) f (256 * (c.val / 2)) 256) :
    mPts c f
      ⊢ iprop((∀ f', mPts c f'
            -∗ Q ⟨Scalar.muli (Scalar.andi (wordOf c) 4294967292#32) 128#32, rowsOf 512 (512 * (c.val / 4)) (A₂ m ρ), I₅, 2#32⟩)
          -∗ runs c (k0_part23 (F := F) xM (Memref.isWhole_whole _) oM (Memref.isWhole_whole _) gM (Memref.isWhole_whole _) eM (Memref.isWhole_whole _) cc0_scratch2 cc0_scratch3 c (wordOf c) u I₂ (evenBit ((peer 1 c).val / 2)) v (lowRow I₂ 4#32)
            (meets rotates_S256x64_d0 I₂ 4#32 252#32 v) (broadcast S256x64 (evenBit ((peer 1 c).val / 2)))) Q) := by
  rw [k0_part23_eq_skeleton]; unfold k0_part23_skel
  simp only [Prog.lift, Prog.bind_op, Prog.bind_ret, Prog.pure_eq_ret, last_b]
  have hp := near_pair c
  iintro He Hk
  iapply (wp_load_unused c) $$ He; iintro He
  iapply (wp_store_merge c (off5b_eq c) (A₂ m ρ) hv) $$ He
  iintro %f' %hf' He
  iapply (wp_load_merge c (off6_eq c) (Agree.pair hp (hf'.2 _ _ _ hf (by omega)) hf'.1)) $$ He
  iintro He
  iapply (runs_done c)
  iapply Hk
  iexact He

/-- Part 26: the last stages of the near half's merge. -/
theorem part26_runs {u : BitVec 32} {v : FVec F S512x64 .f32} {Q : FVec F S512x64 .f32 → sProp 𝕄} {f : FVec F S1024x64 .f32} :
    mPts c f
      ⊢ iprop((mPts c f -∗ Q (five (evenBit (c.val / 4)) 1#32 511#32 (five (evenBit (c.val / 4)) 2#32 510#32
            (five (evenBit (c.val / 4)) 4#32 508#32 v))))
          -∗ runs c (k0_part26 (F := F) xM (Memref.isWhole_whole _) oM (Memref.isWhole_whole _) gM (Memref.isWhole_whole _) eM (Memref.isWhole_whole _) cc0_scratch2 cc0_scratch3 c u I₅ (evenBit (c.val / 4)) v 4#32) Q) := by
  rw [k0_part26_eq_skeleton]; unfold k0_part26_skel
  simp only [Prog.lift, Prog.bind_op, Prog.bind_ret, Prog.pure_eq_ret, last_5a]
  iintro He Hk
  iapply (wp_load_unused c) $$ He; iintro He
  iapply (runs_done c)
  iapply Hk
  iexact He

/-- Part 27: the near half is stored; two more peers' rows are awaited and loaded. -/
theorem part27_runs {u₁ u₂ : BitVec 32} {v : FVec F S512x64 .f32} (hv : v = rowsOf 512 (512 * (c.val / 4)) (A₅ m ρ))
    {Q : (Σ' (v1063 : BitVec 32) (v1065 : Vec F S256x64 .f32) (v1066 : IVec S256x64 32) (v1069 : BitVec 1) (v1076 : FVec F S256x64 .f32), IVec S256x64 1) → sProp 𝕄}
    {f : FVec F S1024x64 .f32} :
    iprop(records m ρ K ∗ debt c 0 ∗ mPts c f ∗ cred (tallyAt (recvCell 3 c) () N) ∗ atPos EX (recvCell 3 c) 0 ∅ 0 ∗ cred (tallyAt (recvCell 4 c) () N) ∗ atPos EX (recvCell 4 c) 0 ∅ 0)
      ⊢ iprop((∀ f', ⌜Agree (A₅ m ρ) f' (512 * (c.val / 4)) 512⌝ -∗ (debt c 0 ∗ mPts c f' ∗ semVal (recvCell 3 c) 0 ∗ blkPts c (peer 3 c) fullShare (GG m ρ) ∗ semVal (recvCell 4 c) 0 ∗ blkPts c (peer 4 c) fullShare (GG m ρ))
            -∗ Q ⟨Scalar.muli (Scalar.andi (Scalar.xori (wordOf c) 4#32) 4294967294#32) 128#32,
              rowsOf 256 (256 * ((peer 3 c).val / 2)) (GG m ρ), I₂, evenBit ((peer 3 c).val / 2),
              meets rotates_S256x64_d0 I₂ 128#32 128#32 (rowsOf 256 (256 * ((peer 3 c).val / 2)) (GG m ρ)),
              keepMin I₂ (dir₂ (evenBit ((peer 3 c).val / 2))) 128#32⟩)
          -∗ runs c (k0_part27 (F := F) xM (Memref.isWhole_whole _) oM (Memref.isWhole_whole _) gM (Memref.isWhole_whole _) eM (Memref.isWhole_whole _) cc0_scratch2 cc0_scratch3 c (wordOf c) u₁ u₂ v) Q) := by
  rw [k0_part27_eq_skeleton]; unfold k0_part27_skel
  simp only [Prog.lift, Prog.bind_op, Prog.bind_ret, Prog.pure_eq_ret, stored₅, begin_c_meets, begin_c_mask, flag_c]
  iintro ⟨#HR, HO, He, Hc3, Hat3, Hc4, Hat4⟩ Hk
  iapply (wp_store_merge c (off6_eq c) (A₅ m ρ) hv) $$ He
  iintro %f' %hf He
  iapply (wp_wait_rows m ρ K c 3 rfl) $$ [HO Hc3 Hat3]
  · isplitr; · iexact HR
    isplitl [HO]; · iexact HO
    isplitl [Hc3] <;> iassumption
  iintro ⟨HO, Hz3, Hn3⟩
  iapply (wp_wait_rows m ρ K c 4 rfl) $$ [HO Hc4 Hat4]
  · isplitr; · iexact HR
    isplitl [HO]; · iexact HO
    isplitl [Hc4] <;> iassumption
  iintro ⟨HO, Hz4, Hn4⟩
  iapply (wp_load_pair m ρ c (b := (peer 3 c).val / 2) (d := peer 3 c) (d' := peer 4 c) rfl (half_peer4 c) (peer34_ne c) (off5c_eq c)) $$ [Hn3 Hn4]
  · isplitl [Hn3] <;> iassumption
  iintro ⟨Hn3, Hn4⟩
  iapply (runs_done c)
  iapply Hk $$ []
  · ipureintro; exact hf.1
  isplitl [HO]; · iexact HO
  isplitl [He]; · iexact He
  isplitl [Hz3]; · iexact Hz3
  isplitl [Hn3]; · iexact Hn3
  isplitl [Hz4] <;> iassumption

/-- Part 30: the first pair of the far half is stored; the last two peers' rows are awaited and loaded. -/
theorem part30_runs {u₁ u₂ u₃ : BitVec 32} {v : FVec F S256x64 .f32}
    (hv : two (evenBit ((peer 3 c).val / 2)) 1#32 255#32 v = rowsOf 256 (256 * ((peer 3 c).val / 2)) (A₂ m ρ))
    {Q : (Σ' (v1200 : BitVec 32) (v1202 : Vec F S256x64 .f32) (v1203 : IVec S256x64 32), BitVec 32) → sProp 𝕄}
    {f : FVec F S1024x64 .f32} (hf : Agree (A₅ m ρ) f (512 * (c.val / 4)) 512) :
    iprop(records m ρ K ∗ debt c 0 ∗ mPts c f ∗ cred (tallyAt (recvCell 5 c) () N) ∗ atPos EX (recvCell 5 c) 0 ∅ 0 ∗ cred (tallyAt (recvCell 6 c) () N) ∗ atPos EX (recvCell 6 c) 0 ∅ 0)
      ⊢ iprop((∀ f', ⌜Agree (A₅ m ρ) f' (512 * (c.val / 4)) 512 ∧ Agree (A₂ m ρ) f' (256 * ((peer 3 c).val / 2)) 256⌝
            -∗ (debt c 0 ∗ mPts c f' ∗ semVal (recvCell 5 c) 0 ∗ blkPts c (peer 5 c) fullShare (GG m ρ) ∗ semVal (recvCell 6 c) 0 ∗ blkPts c (peer 6 c) fullShare (GG m ρ))
            -∗ Q ⟨Scalar.muli (Scalar.andi (Scalar.xori (wordOf c) 6#32) 4294967294#32) 128#32,
              rowsOf 256 (256 * ((peer 5 c).val / 2)) (GG m ρ), I₂, Scalar.shrsi (Scalar.xori (wordOf c) 6#32) 1#32⟩)
          -∗ runs c (k0_part30 (F := F) xM (Memref.isWhole_whole _) oM (Memref.isWhole_whole _) gM (Memref.isWhole_whole _) eM (Memref.isWhole_whole _) cc0_scratch2 cc0_scratch3 c (wordOf c) u₁ u₂ u₃ (evenBit ((peer 3 c).val / 2)) v (andi I₂ (broadcast S256x64 1#32))) Q) := by
  rw [k0_part30_eq_skeleton]; unfold k0_part30_skel
  simp only [Prog.lift, Prog.bind_op, Prog.bind_ret, Prog.pure_eq_ret, last_c]
  have hp := far_pair c
  have hc : c.val / 4 < 2 := by have : c.val < 8 := c.isLt; omega
  iintro ⟨#HR, HO, He, Hc5, Hat5, Hc6, Hat6⟩ Hk
  iapply (wp_load_unused c) $$ He; iintro He
  iapply (wp_store_merge c (off5c_eq c) (A₂ m ρ) hv) $$ He
  iintro %f' %hf' He
  iapply (wp_wait_rows m ρ K c 5 rfl) $$ [HO Hc5 Hat5]
  · isplitr; · iexact HR
    isplitl [HO]; · iexact HO
    isplitl [Hc5] <;> iassumption
  iintro ⟨HO, Hz5, Hn5⟩
  iapply (wp_wait_rows m ρ K c 6 rfl) $$ [HO Hc6 Hat6]
  · isplitr; · iexact HR
    isplitl [HO]; · iexact HO
    isplitl [Hc6] <;> iassumption
  iintro ⟨HO, Hz6, Hn6⟩
  iapply (wp_load_pair m ρ c (b := (peer 5 c).val / 2) (d := peer 5 c) (d' := peer 6 c) rfl (half_peer6 c) (peer56_ne c) (off5d_eq c)) $$ [Hn5 Hn6]
  · isplitl [Hn5] <;> iassumption
  iintro ⟨Hn5, Hn6⟩
  iapply (runs_done c)
  iapply Hk $$ []
  · ipureintro; exact ⟨hf'.2 _ _ _ hf (by omega), hf'.1⟩
  isplitl [HO]; · iexact HO
  isplitl [He]; · iexact He
  isplitl [Hz5]; · iexact Hz5
  isplitl [Hn5]; · iexact Hn5
  isplitl [Hz6] <;> iassumption

/-- Part 33: the second pair of the far half is stored, and the far half is loaded. -/
theorem part33_runs {u : BitVec 32} {v : FVec F S256x64 .f32}
    (hv : two (evenBit ((peer 5 c).val / 2)) 1#32 255#32 (two (evenBit ((peer 5 c).val / 2)) 2#32 254#32 v)
      = rowsOf 256 (256 * ((peer 5 c).val / 2)) (A₂ m ρ))
    {Q : (Σ' (v1325 : BitVec 32) (v1327 : Vec F S512x64 .f32) (v1328 : IVec S512x64 32) (v1331 : BitVec 1), IVec S512x64 32) → sProp 𝕄}
    {f : FVec F S1024x64 .f32}
    (hf : Agree (A₅ m ρ) f (512 * (c.val / 4)) 512 ∧ Agree (A₂ m ρ) f (256 * ((peer 3 c).val / 2)) 256) :
    mPts c f
      ⊢ iprop((∀ f', ⌜Agree (A₅ m ρ) f' (512 * (c.val / 4)) 512⌝ -∗ mPts c f'
            -∗ Q ⟨Scalar.muli (Scalar.andi (Scalar.xori (wordOf c) 4#32) 4294967292#32) 128#32,
              rowsOf 512 (512 * (1 - c.val / 4)) (A₂ m ρ), I₅, evenBit (1 - c.val / 4), k0_pay77⟩)
          -∗ runs c (k0_part33 (F := F) xM (Memref.isWhole_whole _) oM (Memref.isWhole_whole _) gM (Memref.isWhole_whole _) eM (Memref.isWhole_whole _) cc0_scratch2 cc0_scratch3 c (wordOf c) u I₂ (evenBit ((peer 5 c).val / 2)) v (broadcast S256x64 2#32)) Q) := by
  rw [k0_part33_eq_skeleton]; unfold k0_part33_skel
  simp only [Prog.lift, Prog.bind_op, Prog.bind_ret, Prog.pure_eq_ret, last_d]
  have hp := far_pair c
  have hc : c.val / 4 < 2 := by have : c.val < 8 := c.isLt; omega
  iintro He Hk
  iapply (wp_load_unused c) $$ He; iintro He
  iapply (wp_store_merge c (off5d_eq c) (A₂ m ρ) hv) $$ He
  iintro %f' %hf' He
  iapply (wp_load_merge c (off7_eq c) (Agree.pair hp (hf'.2 _ _ _ hf.2 (by omega)) hf'.1)) $$ He
  iintro He
  iapply (runs_done c)
  have hfl : Scalar.cmpi .eq (Scalar.andi (Scalar.shrsi (Scalar.xori (wordOf c) 4#32) 2#32) 1#32) 0#32 = evenBit (1 - c.val / 4) := flag_far c
  rw [hfl]
  iapply Hk $$ [] He
  ipureintro; exact hf'.2 _ _ _ hf.1 (by omega)

/-- Part 36: the far half is stored. -/
theorem part36_runs {u : BitVec 32} {v : FVec F S512x64 .f32}
    (hv : five (evenBit (1 - c.val / 4)) 1#32 511#32 (five (evenBit (1 - c.val / 4)) 2#32 510#32
      (five (evenBit (1 - c.val / 4)) 4#32 508#32 v)) = rowsOf 512 (512 * (1 - c.val / 4)) (A₅ m ρ))
    {Q : (Σ' (v1463 : BitVec 32), BitVec 32) → sProp 𝕄}
    {f : FVec F S1024x64 .f32} (hf : Agree (A₅ m ρ) f (512 * (c.val / 4)) 512) :
    mPts c f
      ⊢ iprop((∀ f', ⌜Agree (A₅ m ρ) f' (512 * (c.val / 4)) 512 ∧ Agree (A₅ m ρ) f' (512 * (1 - c.val / 4)) 512⌝ -∗ mPts c f'
            -∗ Q ⟨Scalar.andi (Scalar.shrsi (wordOf c) 2#32) 1#32, 512#32⟩)
          -∗ runs c (k0_part36 (F := F) xM (Memref.isWhole_whole _) oM (Memref.isWhole_whole _) gM (Memref.isWhole_whole _) eM (Memref.isWhole_whole _) cc0_scratch2 cc0_scratch3 c (wordOf c) u I₅ (evenBit (1 - c.val / 4)) v (lowRow I₅ 4#32)
            (dynamicRotate 0 508#32 none v rotates_S512x64_d0)) Q) := by
  rw [k0_part36_eq_skeleton]; unfold k0_part36_skel
  rw [last_5b, hv]
  simp only [Prog.lift, Prog.bind_op, Prog.bind_ret, Prog.pure_eq_ret]
  have hc : c.val / 4 < 2 := by have : c.val < 8 := c.isLt; omega
  iintro He Hk
  iapply (wp_load_unused c) $$ He; iintro He
  iapply (wp_store_merge c (off7_eq c) (A₅ m ρ) rfl) $$ He
  iintro %f' %hf' He
  iapply (runs_done c)
  iapply Hk $$ [] He
  ipureintro; exact ⟨hf'.2 _ _ _ hf (by omega), hf'.1⟩

/-- Part 37: the stages between runs of 512 and of 256 rows, and the load of the own rows. -/
theorem part37_runs {u : BitVec 32} {Q : (Σ' (v1500 : Vec F S128x64 .f32), BitVec 32) → sProp 𝕄} {f : FVec F S1024x64 .f32}
    (hf : Agree (A₅ m ρ) f (512 * (c.val / 4)) 512 ∧ Agree (A₅ m ρ) f (512 * (1 - c.val / 4)) 512) :
    mPts c f
      ⊢ iprop((∀ f', ⌜Agree (B₂ m ρ) f' (256 * (c.val / 2)) 256⌝ -∗ mPts c f'
            -∗ Q ⟨rowsOf 128 (128 * c.val) (B₂ m ρ), Scalar.xori (wordOf c) 1#32⟩)
          -∗ runs c (k0_part37 (F := F) xM (Memref.isWhole_whole _) oM (Memref.isWhole_whole _) gM (Memref.isWhole_whole _) eM (Memref.isWhole_whole _) cc0_scratch2 cc0_scratch3 c (wordOf c) (Scalar.andi (Scalar.shrsi (wordOf c) 2#32) 1#32) u) Q) := by
  rw [k0_part37_eq_skeleton]; unfold k0_part37_skel
  simp only [Prog.lift, Prog.bind_op, Prog.bind_ret, Prog.pure_eq_ret, half_eq, quarter_eq, flag_a, flag_near]
  have hc : c.val < 8 := c.isLt
  have hp := near_pair c
  iintro He Hk
  iapply (wp_load_merge c (off8_eq c) hf.1) $$ He; iintro He
  iapply (wp_load_merge c (off9_eq c) hf.2) $$ He; iintro He
  iapply (wp_load_unused c) $$ He; iintro He
  iapply (wp_store_merge c (off8_eq c) (B₅ m ρ)
    (select_across 512 (by decide) (A₅ m ρ) (by omega) (far_half c))) $$ He
  iintro %f₁ %h₁ He
  iapply (wp_load_merge c (off10_eq c) (h₁.1.sub (s' := 256 * (c.val / 2)) (n' := 256) (by omega) (by omega))) $$ He; iintro He
  iapply (wp_load_merge c (off11_eq c) (h₁.1.sub (s' := 256 * ((peer 1 c).val / 2)) (n' := 256) (by omega) (by omega))) $$ He; iintro He
  iapply (wp_load_unused c) $$ He; iintro He
  iapply (wp_store_merge c (off10_eq c) (B₂ m ρ)
    (select_across 256 (by decide) (B₅ m ρ) (by omega) (near_quarter c))) $$ He
  iintro %f₂ %h₂ He
  iapply (wp_load_merge c (off1_eq c) (h₂.1.sub (s' := 128 * c.val) (n' := 128) (by omega) (by omega))) $$ He; iintro He
  iapply (runs_done c)
  iapply Hk $$ [] He
  ipureintro; exact h₂.1

/-- Part 38: the stage between runs of 128 rows, and the first stages of the closing sort. -/
theorem part38_runs {u : BitVec 32} {Q : (Σ' (v1537 : FVec F S128x64 .f32) (v1541 : IVec S128x64 1), FVec F S128x64 .f32) → sProp 𝕄}
    {f : FVec F S1024x64 .f32} (hf : Agree (B₂ m ρ) f (256 * (c.val / 2)) 256) :
    mPts c f
      ⊢ iprop((mPts c f -∗ Q ⟨last 32#32 96#32 (last 64#32 64#32 (rowsOf 128 (128 * c.val) (B₁ m ρ))), lowRow I₁ 16#32,
              dynamicRotate 0 112#32 none (last 32#32 96#32 (last 64#32 64#32 (rowsOf 128 (128 * c.val) (B₁ m ρ)))) rotates_S128x64_d0⟩)
          -∗ runs c (k0_part38 (F := F) xM (Memref.isWhole_whole _) oM (Memref.isWhole_whole _) gM (Memref.isWhole_whole _) eM (Memref.isWhole_whole _) cc0_scratch2 cc0_scratch3 c (wordOf c) I₁ (rowsOf 128 (128 * c.val) (B₂ m ρ)) u) Q) := by
  rw [k0_part38_eq_skeleton]; unfold k0_part38_skel
  simp only [Prog.lift, Prog.bind_op, Prog.bind_ret, Prog.pure_eq_ret, closing_rot, closing_first, closing_low, flag_one]
  have hc : c.val < 8 := c.isLt
  have h0 := half_peer0 c
  iintro He Hk
  iapply (wp_load_merge c (off12_eq c) (hf.sub (s' := 128 * (peer 0 c).val) (n' := 128) (by omega) (by omega))) $$ He; iintro He
  rw [select_across 128 (by decide) (B₂ m ρ) (by omega) (near_eighth c)]
  have hB : across 128 (by decide) (B₂ m ρ) = B₁ m ρ := rfl
  rw [hB]
  iapply (runs_done c)
  iapply Hk
  iexact He

/-- The wait for a copy of the device's own, with the share of the own rows it gives back. -/
def copied (e : Fin 7) : sProp 𝕄 := iprop(cred (tallyAt (sendCell e c) () N) ∗ atPos EX (sendCell e c) 0 ∅ 0)
def returned (e : Fin 7) : sProp 𝕄 := iprop(semVal (sendCell e c) 0 ∗ blkPts c c (copyShare e) (GG m ρ))

theorem wp_wait_returned (e : Fin 7) {sS : DmaSem sig} (hsS : sS = sendS e) {src : Memref sig .tc .vmem S128x64 .f32} {off : Fin 2 → ℕ}
    {inb : ∀ a : Fin 2, off a + S128x64.size a ≤ S1024x64.size a}
    {hst : ∀ a, (Rect.unit (s := S1024x64) off S128x64.size inb).stride a = 1} {hsrc : src.view.WordExact}
    {hdst : (gM.slice (Rect.unit (s := S1024x64) off S128x64.size inb) hst).view.WordExact}
    {α : Type} {k : PUnit → Prog (TpuEff nD τ sig (Elt F) Λ₀ .tc) α} {Q : α → sProp 𝕄} :
    iprop(records m ρ K ∗ debt c 0 ∗ copied c e)
      ⊢ iprop(((debt c 0 ∗ returned m ρ c e) -∗ runs c (k ⟨⟩) Q)
          -∗ runs c (.op (.waitDma2 sS src (gM.slice (Rect.unit (s := S1024x64) off S128x64.size inb) hst) hsrc hdst) k) Q) := by
  unfold copied returned
  exact wp_wait_copied m ρ K c e hsS

/-- Part 40: the result is stored, and the first two copies of the device's own are awaited. -/
theorem part40_runs {v : FVec F S128x64 .f32}
    (hv : last 1#32 127#32 (last 2#32 126#32 v) = outOf (xstg m ρ) c)
    {Q : PUnit → sProp 𝕄} {f : FVec F S128x64 .f32} :
    iprop(records m ρ K ∗ debt c 0 ∗ oPts c f ∗ copied c 0 ∗ copied c 1)
      ⊢ iprop(((debt c 0 ∗ oPts c (outOf (xstg m ρ) c) ∗ returned m ρ c 0 ∗ returned m ρ c 1) -∗ Q ⟨⟩)
          -∗ runs c (k0_part40 (F := F) xM (Memref.isWhole_whole _) oM (Memref.isWhole_whole _) gM (Memref.isWhole_whole _) eM (Memref.isWhole_whole _) cc0_scratch2 cc0_scratch3 c I₁ v (lowRow I₁ 2#32) (dynamicRotate 0 126#32 none v rotates_S128x64_d0)) Q) := by
  rw [k0_part40_eq_skeleton]; unfold k0_part40_skel
  rw [closing_last, hv]
  simp only [Prog.lift, Prog.bind_op, Prog.bind_ret, Prog.pure_eq_ret]
  unfold oPts
  iintro ⟨#HR, HO, Hout, C0, C1⟩ Hk
  iapply (wp_load 𝒱₀ (c : Thread nD τ) none Set.univ (m := oM) (Finset.subset_univ _)) $$ Hout; iintro Hout
  iapply (wp_store 𝒱₀ (c : Thread nD τ) none Set.univ (m := oM)
    (r := Rect.unit (s := S128x64) ![0, 0] S128x64.size inb_S128x64_S128x64_0_0) (Mk := Finset.univ) (Finset.subset_univ _)) $$ Hout; iintro Hout
  rw [write_o]
  iapply (wp_wait_returned m ρ K c 0 rfl) $$ [HO C0]
  · isplitr; · iexact HR
    isplitl [HO] <;> iassumption
  iintro ⟨HO, R0⟩
  iapply (wp_wait_returned m ρ K c 1 rfl) $$ [HO C1]
  · isplitr; · iexact HR
    isplitl [HO] <;> iassumption
  iintro ⟨HO, R1⟩
  iapply (runs_done c)
  iapply Hk
  isplitl [HO]; · iexact HO
  isplitl [Hout]; · iexact Hout
  isplitl [R0] <;> iassumption

end Cert.SortProof
end
-- ==== Proof.Body.lean ====
/-
# The kernel's run on one device

The parts in order, from what a device holds at its start to what it holds at its end.
-/
module

public import proofs.«01_k».proof.Proof.PartsB

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-- From its rights, its credits and its positions, and any contents of its buffers, a device runs the kernel: its result
    is the closing sort's, its buffers and its semaphores are its own again. -/
theorem body_runs {Q : PUnit → sProp 𝕄} {f f' : FVec F S1024x64 .f32} {g : FVec F S128x64 .f32} :
    iprop(records m ρ K ∗ debt c (owed₀ c)
        ∗ (signalRight c 0 ∗ signalRight c 1 ∗ signalRight c 2 ∗ signalRight c 3 ∗ signalRight c 4 ∗ signalRight c 5 ∗ signalRight c 6)
        ∗ levAts L lv ∗ cred (tallyAt (barCell c) () 7) ∗ atPos EX (barCell c) 0 ∅ 0 ∗ xPts c (xstg m ρ c)
        ∗ blkPts c c fullShare f
        ∗ (copyRight c 0 ∗ copyRight c 1 ∗ copyRight c 2 ∗ copyRight c 3 ∗ copyRight c 4 ∗ copyRight c 5 ∗ copyRight c 6)
        ∗ (cred (tallyAt (recvCell 0 c) () N) ∗ cred (tallyAt (recvCell 1 c) () N) ∗ cred (tallyAt (recvCell 2 c) () N) ∗ cred (tallyAt (recvCell 3 c) () N) ∗ cred (tallyAt (recvCell 4 c) () N) ∗ cred (tallyAt (recvCell 5 c) () N) ∗ cred (tallyAt (recvCell 6 c) () N))
        ∗ (atPos EX (recvCell 0 c) 0 ∅ 0 ∗ atPos EX (recvCell 1 c) 0 ∅ 0 ∗ atPos EX (recvCell 2 c) 0 ∅ 0 ∗ atPos EX (recvCell 3 c) 0 ∅ 0 ∗ atPos EX (recvCell 4 c) 0 ∅ 0 ∗ atPos EX (recvCell 5 c) 0 ∅ 0 ∗ atPos EX (recvCell 6 c) 0 ∅ 0)
        ∗ (atPos EX (sendCell 0 c) 0 ∅ 0 ∗ atPos EX (sendCell 1 c) 0 ∅ 0 ∗ atPos EX (sendCell 2 c) 0 ∅ 0 ∗ atPos EX (sendCell 3 c) 0 ∅ 0 ∗ atPos EX (sendCell 4 c) 0 ∅ 0 ∗ atPos EX (sendCell 5 c) 0 ∅ 0 ∗ atPos EX (sendCell 6 c) 0 ∅ 0)
        ∗ mPts c f' ∗ oPts c g)
      ⊢ iprop(((debt c 0 ∗ semVal (barCell c) 0 ∗ xPts c (xstg m ρ c) ∗ oPts c (outOf (xstg m ρ) c)
            ∗ semVal (recvCell 0 c) 0 ∗ blkPts c (peer 0 c) fullShare (GG m ρ) ∗ semVal (recvCell 1 c) 0 ∗ blkPts c (peer 1 c) fullShare (GG m ρ) ∗ semVal (recvCell 2 c) 0 ∗ blkPts c (peer 2 c) fullShare (GG m ρ) ∗ semVal (recvCell 3 c) 0 ∗ blkPts c (peer 3 c) fullShare (GG m ρ) ∗ semVal (recvCell 4 c) 0 ∗ blkPts c (peer 4 c) fullShare (GG m ρ) ∗ semVal (recvCell 5 c) 0 ∗ blkPts c (peer 5 c) fullShare (GG m ρ) ∗ semVal (recvCell 6 c) 0 ∗ blkPts c (peer 6 c) fullShare (GG m ρ)
            ∗ returned m ρ c 0 ∗ returned m ρ c 1 ∗ returned m ρ c 2 ∗ returned m ρ c 3 ∗ returned m ρ c 4 ∗ returned m ρ c 5 ∗ returned m ρ c 6
            ∗ blkPts c c (fullShare : PosShare TreeShare).left (GG m ρ) ∗ blkPts c c (rest 7) (GG m ρ) ∗ (∃ f, mPts c f)) -∗ Q ⟨⟩)
          -∗ runs c (cc0_body (F := F) xM (Memref.isWhole_whole _) oM (Memref.isWhole_whole _) gM (Memref.isWhole_whole _) eM (Memref.isWhole_whole _) cc0_scratch2 cc0_scratch3) Q) := by
  have hc : c.val < 8 := c.isLt
  have h1 : (peer 1 c).val < 8 := (peer 1 c).isLt
  have h3 : (peer 3 c).val < 8 := (peer 3 c).isLt
  have h5 : (peer 5 c).val < 8 := (peer 5 c).isLt
  iintro ⟨#HR, HO, ⟨S0, S1, S2, S3, S4, S5, S6⟩, #Hlev, Hc, Hat, Hx, Hb, ⟨R0, R1, R2, R3, R4, R5, R6⟩, ⟨W0, W1, W2, W3, W4, W5, W6⟩, ⟨V0, V1, V2, V3, V4, V5, V6⟩,
    ⟨T0, T1, T2, T3, T4, T5, T6⟩, He, Hout⟩ Hk
  rw [cc0_body_eq_skeleton]; unfold cc0_body_skel
  iapply (runs_bind c)
  rw [k0_part41_eq_skeleton]; unfold k0_part41_skel
  iapply (runs_bind c)
  iapply (part1_runs m ρ K c) $$ [HO S0 S1 S2 S3 S4 S5]
  · isplitr; · iexact HR
    isplitl [HO]; · iexact HO
    isplitl [S0]; · iexact S0
    isplitl [S1]; · iexact S1
    isplitl [S2]; · iexact S2
    isplitl [S3]; · iexact S3
    isplitl [S4]; · iexact S4
    iexact S5
  iintro HO
  iapply (runs_bind c)
  iapply (part2_runs m ρ K c) $$ [HO S6 Hc Hat Hx]
  · isplitr; · iexact HR
    isplitl [HO]; · iexact HO
    isplitl [S6]; · iexact S6
    isplitr; · iexact Hlev
    isplitl [Hc]; · iexact Hc
    isplitl [Hat]; · iexact Hat
    iexact Hx
  iintro ⟨HO, Hz, Hx, P0, P1, P2, P3, P4, P5, P6⟩
  iapply (runs_pure c (part3_eq xM (Memref.isWhole_whole _) oM (Memref.isWhole_whole _) gM (Memref.isWhole_whole _) eM (Memref.isWhole_whole _) cc0_scratch2 cc0_scratch3 ..))
  iapply (runs_pure c (part4_eq xM (Memref.isWhole_whole _) oM (Memref.isWhole_whole _) gM (Memref.isWhole_whole _) eM (Memref.isWhole_whole _) cc0_scratch2 cc0_scratch3 ..))
  iapply (runs_pure c (part5_eq xM (Memref.isWhole_whole _) oM (Memref.isWhole_whole _) gM (Memref.isWhole_whole _) eM (Memref.isWhole_whole _) cc0_scratch2 cc0_scratch3 ..))
  iapply (runs_pure c (part6_eq xM (Memref.isWhole_whole _) oM (Memref.isWhole_whole _) gM (Memref.isWhole_whole _) eM (Memref.isWhole_whole _) cc0_scratch2 cc0_scratch3 ..))
  iapply (runs_pure c (part7_eq xM (Memref.isWhole_whole _) oM (Memref.isWhole_whole _) gM (Memref.isWhole_whole _) eM (Memref.isWhole_whole _) cc0_scratch2 cc0_scratch3 ..))
  iapply (runs_pure c (part8_eq xM (Memref.isWhole_whole _) oM (Memref.isWhole_whole _) gM (Memref.isWhole_whole _) eM (Memref.isWhole_whole _) cc0_scratch2 cc0_scratch3 ..))
  iapply (runs_pure c (part9_eq xM (Memref.isWhole_whole _) oM (Memref.isWhole_whole _) gM (Memref.isWhole_whole _) eM (Memref.isWhole_whole _) cc0_scratch2 cc0_scratch3 ..))
  iapply (runs_pure c (part10_eq xM (Memref.isWhole_whole _) oM (Memref.isWhole_whole _) gM (Memref.isWhole_whole _) eM (Memref.isWhole_whole _) cc0_scratch2 cc0_scratch3 ..))
  iapply (runs_pure c (part11_eq xM (Memref.isWhole_whole _) oM (Memref.isWhole_whole _) gM (Memref.isWhole_whole _) eM (Memref.isWhole_whole _) cc0_scratch2 cc0_scratch3 ..))
  iapply (runs_pure c (part12_eq xM (Memref.isWhole_whole _) oM (Memref.isWhole_whole _) gM (Memref.isWhole_whole _) eM (Memref.isWhole_whole _) cc0_scratch2 cc0_scratch3 ..))
  iapply (runs_bind c)
  iapply (part13_runs c) $$ Hb
  iintro %u Hb
  iapply (runs_bind c)
  iapply (part14_runs m ρ K c rfl) $$ [HO Hb R0 R1 P0 P1]
  · isplitr; · iexact HR
    isplitl [HO]; · iexact HO
    isplitl [Hb]; · iexact Hb
    isplitl [R0]; · iexact R0
    isplitl [R1]; · iexact R1
    isplitl [P0]; · iexact P0
    iexact P1
  iintro ⟨HO, Hl, Hb, C0, C1⟩
  iapply (runs_bind c)
  iapply (part15_runs m ρ K c) $$ [HO Hb R2 R3 P2 P3]
  · isplitr; · iexact HR
    isplitl [HO]; · iexact HO
    isplitl [Hb]; · iexact Hb
    isplitl [R2]; · iexact R2
    isplitl [R3]; · iexact R3
    isplitl [P2]; · iexact P2
    iexact P3
  iintro ⟨HO, Hb, C2, C3⟩
  iapply (runs_bind c)
  iapply (part16_runs m ρ K c) $$ [HO Hb R4 R5 P4 P5]
  · isplitr; · iexact HR
    isplitl [HO]; · iexact HO
    isplitl [Hb]; · iexact Hb
    isplitl [R4]; · iexact R4
    isplitl [R5]; · iexact R5
    isplitl [P4]; · iexact P4
    iexact P5
  iintro ⟨HO, Hb, C4, C5⟩
  iapply (runs_bind c)
  iapply (part17_runs m ρ K c) $$ [HO Hb R6 P6 W0 V0 Hl]
  · isplitr; · iexact HR
    isplitl [HO]; · iexact HO
    isplitl [Hb]; · iexact Hb
    isplitl [R6]; · iexact R6
    isplitl [P6]; · iexact P6
    isplitl [W0]; · iexact W0
    isplitl [V0]; · iexact V0
    iexact Hl
  iintro ⟨HO, Hb, C6, Hz0, Hl, Hn0⟩
  iapply (runs_pure c (part18_eq xM (Memref.isWhole_whole _) oM (Memref.isWhole_whole _) gM (Memref.isWhole_whole _) eM (Memref.isWhole_whole _) cc0_scratch2 cc0_scratch3 ..))
  iapply (runs_pure c (part19_eq xM (Memref.isWhole_whole _) oM (Memref.isWhole_whole _) gM (Memref.isWhole_whole _) eM (Memref.isWhole_whole _) cc0_scratch2 cc0_scratch3 ..))
  iapply (runs_bind c)
  iapply (part20_runs m ρ K c (merged₂_rows (xstg m ρ) (b := c.val / 2) (by omega))) $$ [HO He W1 V1 W2 V2]
  · isplitr; · iexact HR
    isplitl [HO]; · iexact HO
    isplitl [He]; · iexact He
    isplitl [W1]; · iexact W1
    isplitl [V1]; · iexact V1
    isplitl [W2]; · iexact W2
    iexact V2
  iintro %f₁ %h₁ ⟨HO, He, Hz1, Hn1, Hz2, Hn2⟩
  iapply (runs_bind c)
  iapply (part21_runs m ρ c) $$ [Hn1 Hn2]
  · isplitl [Hn1]; · iexact Hn1
    iexact Hn2
  iintro ⟨Hn1, Hn2⟩
  iapply (runs_pure c (part22_eq xM (Memref.isWhole_whole _) oM (Memref.isWhole_whole _) gM (Memref.isWhole_whole _) eM (Memref.isWhole_whole _) cc0_scratch2 cc0_scratch3 ..))
  iapply (runs_bind c)
  iapply (part23_runs m ρ c (merged₂_rows (xstg m ρ) (b := (peer 1 c).val / 2) (by omega)) h₁) $$ He
  iintro %f₂ He
  iapply (runs_pure c (part24_eq xM (Memref.isWhole_whole _) oM (Memref.isWhole_whole _) gM (Memref.isWhole_whole _) eM (Memref.isWhole_whole _) cc0_scratch2 cc0_scratch3 ..))
  simp only [flag_near]
  iapply (runs_pure c (part25_eq xM (Memref.isWhole_whole _) oM (Memref.isWhole_whole _) gM (Memref.isWhole_whole _) eM (Memref.isWhole_whole _) cc0_scratch2 cc0_scratch3 ..))
  iapply (runs_bind c)
  iapply (part26_runs c) $$ He
  iintro He
  iapply (runs_bind c)
  iapply (part27_runs m ρ K c (merged₅_rows (xstg m ρ) (b := c.val / 4) (by omega))) $$ [HO He W3 V3 W4 V4]
  · isplitr; · iexact HR
    isplitl [HO]; · iexact HO
    isplitl [He]; · iexact He
    isplitl [W3]; · iexact W3
    isplitl [V3]; · iexact V3
    isplitl [W4]; · iexact W4
    iexact V4
  iintro %f₃ %h₃ ⟨HO, He, Hz3, Hn3, Hz4, Hn4⟩
  iapply (runs_pure c (part28_eq xM (Memref.isWhole_whole _) oM (Memref.isWhole_whole _) gM (Memref.isWhole_whole _) eM (Memref.isWhole_whole _) cc0_scratch2 cc0_scratch3 ..))
  iapply (runs_pure c (part29_eq xM (Memref.isWhole_whole _) oM (Memref.isWhole_whole _) gM (Memref.isWhole_whole _) eM (Memref.isWhole_whole _) cc0_scratch2 cc0_scratch3 ..))
  iapply (runs_bind c)
  iapply (part30_runs m ρ K c (merged₂_rows (xstg m ρ) (b := (peer 3 c).val / 2) (by omega)) h₃) $$ [HO He W5 V5 W6 V6]
  · isplitr; · iexact HR
    isplitl [HO]; · iexact HO
    isplitl [He]; · iexact He
    isplitl [W5]; · iexact W5
    isplitl [V5]; · iexact V5
    isplitl [W6]; · iexact W6
    iexact V6
  iintro %f₄ %h₄ ⟨HO, He, Hz5, Hn5, Hz6, Hn6⟩
  iapply (runs_pure c (part31_eq xM (Memref.isWhole_whole _) oM (Memref.isWhole_whole _) gM (Memref.isWhole_whole _) eM (Memref.isWhole_whole _) cc0_scratch2 cc0_scratch3 ..))
  simp only [flag_d]
  iapply (runs_pure c (part32_eq xM (Memref.isWhole_whole _) oM (Memref.isWhole_whole _) gM (Memref.isWhole_whole _) eM (Memref.isWhole_whole _) cc0_scratch2 cc0_scratch3 ..))
  iapply (runs_bind c)
  iapply (part33_runs m ρ c (merged₂_rows (xstg m ρ) (b := (peer 5 c).val / 2) (by omega)) h₄) $$ He
  iintro %f₅ %h₅ He
  iapply (runs_pure c (part34_eq xM (Memref.isWhole_whole _) oM (Memref.isWhole_whole _) gM (Memref.isWhole_whole _) eM (Memref.isWhole_whole _) cc0_scratch2 cc0_scratch3 ..))
  iapply (runs_pure c (part35_eq xM (Memref.isWhole_whole _) oM (Memref.isWhole_whole _) gM (Memref.isWhole_whole _) eM (Memref.isWhole_whole _) cc0_scratch2 cc0_scratch3 ..))
  iapply (runs_bind c)
  iapply (part36_runs m ρ c (merged₅_rows (xstg m ρ) (b := 1 - c.val / 4) (by omega)) h₅) $$ He
  iintro %f₆ %h₆ He
  iapply (runs_bind c)
  iapply (part37_runs m ρ c h₆) $$ He
  iintro %f₇ %h₇ He
  iapply (runs_bind c)
  iapply (part38_runs m ρ c h₇) $$ He
  iintro He
  iapply (runs_pure c (part39_eq xM (Memref.isWhole_whole _) oM (Memref.isWhole_whole _) gM (Memref.isWhole_whole _) eM (Memref.isWhole_whole _) cc0_scratch2 cc0_scratch3 ..))
  ihave C0' : copied c 0 $$ [C0 T0]
  · unfold copied; isplitl [C0] <;> iassumption
  ihave C1' : copied c 1 $$ [C1 T1]
  · unfold copied; isplitl [C1] <;> iassumption
  ihave C2' : copied c 2 $$ [C2 T2]
  · unfold copied; isplitl [C2] <;> iassumption
  ihave C3' : copied c 3 $$ [C3 T3]
  · unfold copied; isplitl [C3] <;> iassumption
  ihave C4' : copied c 4 $$ [C4 T4]
  · unfold copied; isplitl [C4] <;> iassumption
  ihave C5' : copied c 5 $$ [C5 T5]
  · unfold copied; isplitl [C5] <;> iassumption
  ihave C6' : copied c 6 $$ [C6 T6]
  · unfold copied; isplitl [C6] <;> iassumption
  iapply (runs_bind c)
  iapply (part40_runs m ρ K c rfl) $$ [HO Hout C0' C1']
  · isplitr; · iexact HR
    isplitl [HO]; · iexact HO
    isplitl [Hout]; · iexact Hout
    isplitl [C0']; · iexact C0'
    iexact C1'
  iintro ⟨HO, Hout, D0, D1⟩
  simp only [Prog.lift, Prog.bind_op, Prog.bind_ret, Prog.pure_eq_ret]
  iapply (wp_wait_returned m ρ K c 2 rfl) $$ [HO C2']
  · isplitr; · iexact HR
    isplitl [HO]; · iexact HO
    iexact C2'
  iintro ⟨HO, D2⟩
  iapply (wp_wait_returned m ρ K c 3 rfl) $$ [HO C3']
  · isplitr; · iexact HR
    isplitl [HO]; · iexact HO
    iexact C3'
  iintro ⟨HO, D3⟩
  iapply (runs_done c)
  iapply (wp_wait_returned m ρ K c 4 rfl) $$ [HO C4']
  · isplitr; · iexact HR
    isplitl [HO]; · iexact HO
    iexact C4'
  iintro ⟨HO, D4⟩
  iapply (wp_wait_returned m ρ K c 5 rfl) $$ [HO C5']
  · isplitr; · iexact HR
    isplitl [HO]; · iexact HO
    iexact C5'
  iintro ⟨HO, D5⟩
  iapply (wp_wait_returned m ρ K c 6 rfl) $$ [HO C6']
  · isplitr; · iexact HR
    isplitl [HO]; · iexact HO
    iexact C6'
  iintro ⟨HO, D6⟩
  iapply (runs_done c)
  iapply Hk
  isplitl [HO]; · iexact HO
  isplitl [Hz]; · iexact Hz
  isplitl [Hx]; · iexact Hx
  isplitl [Hout]; · iexact Hout
  isplitl [Hz0]; · iexact Hz0
  isplitl [Hn0]; · iexact Hn0
  isplitl [Hz1]; · iexact Hz1
  isplitl [Hn1]; · iexact Hn1
  isplitl [Hz2]; · iexact Hz2
  isplitl [Hn2]; · iexact Hn2
  isplitl [Hz3]; · iexact Hz3
  isplitl [Hn3]; · iexact Hn3
  isplitl [Hz4]; · iexact Hz4
  isplitl [Hn4]; · iexact Hn4
  isplitl [Hz5]; · iexact Hz5
  isplitl [Hn5]; · iexact Hn5
  isplitl [Hz6]; · iexact Hz6
  isplitl [Hn6]; · iexact Hn6
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [Hl]; · iexact Hl
  isplitl [Hb]; · iexact Hb
  iexists f₇; iexact He

end Cert.SortProof
end
-- ==== Proof.Device.lean ====
/-
# One device's grid point

What a device holds before and after its one grid point, and that the kernel's run on it takes it from the one to the
other: the library's obligation on the body.
-/
module

public import proofs.«01_k».proof.Proof.Body

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## All devices, seen from one -/

/-- The devices are the device itself and its seven peers. -/
theorem devices (Φ : Dev nD → sProp 𝕄) :
    bigSep Finset.univ Φ = iprop(Φ c ∗ bigSep Finset.univ fun e : Fin 7 => Φ (peer e c)) := by
  rw [bigSep_fin7, bigSep_univ_eq_bigSepL [c, peer 0 c, peer 1 c, peer 2 c, peer 3 c, peer 4 c, peer 5 c, peer 6 c]
    (by revert c; decide +kernel) (by revert c; decide +kernel)]
  rfl

/-- The gather buffer is the own rows and each peer's. -/
theorem gather_rows (f : FVec F S1024x64 .f32) :
    (((c : Thread nD τ).loc cc0_scratch0 ↦{fullShare} f : sProp 𝕄))
      = iprop(blkPts c c fullShare f ∗ bigSep Finset.univ fun e : Fin 7 => blkPts c (peer e c) fullShare f) := by
  rw [← devices c fun d => blkPts c d fullShare f]
  unfold blkPts
  refine Eq.trans ?_ (pointsTo_biUnion (ℓ := (c : Thread nD τ).loc cc0_scratch0) Finset.univ (fun d => (rowRect d).set)
    fun d _ d' _ h => rows_disjoint h)
  exact congrArg (fun S => ((c : Thread nD τ).loc cc0_scratch0 ↦[S]{fullShare} f : sProp 𝕄)) rows_union.symm

/-- The own rows' shares, put together again. -/
theorem own_again {f : FVec F S1024x64 .f32} :
    iprop(blkPts c c (fullShare : PosShare TreeShare).left f ∗ blkPts c c (rest 7) f ∗ (blkPts c c (copyShare 0) f ∗ blkPts c c (copyShare 1) f ∗ blkPts c c (copyShare 2) f ∗ blkPts c c (copyShare 3) f ∗ blkPts c c (copyShare 4) f ∗ blkPts c c (copyShare 5) f ∗ blkPts c c (copyShare 6) f))
      ⊢ (blkPts c c fullShare f : sProp 𝕄) := by
  iintro ⟨Hl, Hr, ⟨H0, H1, H2, H3, H4, H5, H6⟩⟩
  iapply (deal_own c).2
  isplitl [Hl]; · iexact Hl
  iapply (deal_copy c 0).2
  isplitl [H0]; · iexact H0
  iapply (deal_copy c 1).2
  isplitl [H1]; · iexact H1
  iapply (deal_copy c 2).2
  isplitl [H2]; · iexact H2
  iapply (deal_copy c 3).2
  isplitl [H3]; · iexact H3
  iapply (deal_copy c 4).2
  isplitl [H4]; · iexact H4
  iapply (deal_copy c 5).2
  isplitl [H5]; · iexact H5
  iapply (deal_copy c 6).2
  isplitl [H6]; · iexact H6
  iexact Hr

/-! ## What a device holds -/

/-- The tokens of the duties that device `c` pays: to each peer's barrier, and by its copy to each peer. -/
def payToks : sProp 𝕄 := bigSep Finset.univ fun e : Fin 7 =>
  iprop(dutyTok EX (barCell (peer e c)) 0 e ∗ dutyTok EX (sendCell e c) 0 e ∗ dutyTok EX (recvCell e (peer e c)) 0 e)
/-- Its place in each of its own cells' rounds. -/
def places : sProp 𝕄 := bigSep Finset.univ fun k : CI => atPos EX (kcell (c, k)) 0 ∅ 0
def ghost : sProp 𝕄 := iprop(records m ρ K ∗ places c ∗ payToks c)
/-- What it starts from: that at some names, its credits and the levels. -/
def start : sProp 𝕄 :=
  iprop((∃ K, ghost m ρ K c) ∗ cred (tallyAt (barCell c) () 7)
    ∗ (bigSep Finset.univ fun e : Fin 7 => cred (tallyAt (recvCell e c) () N)) ∗ levAts L lv)

/-- Its two scratch buffers, at any contents. -/
def buffers : sProp 𝕄 :=
  iprop((∃ f : Buf (Elt F) ((c : Thread nD τ).loc cc0_scratch0), (c : Thread nD τ).loc cc0_scratch0 ↦{fullShare} f)
    ∗ ∃ f : Buf (Elt F) ((c : Thread nD τ).loc cc0_scratch1), (c : Thread nD τ).loc cc0_scratch1 ↦{fullShare} f)
/-- Its own semaphores at zero. -/
def idle : sProp 𝕄 := bigSep Finset.univ fun k : Bool × Fin 7 => semVal (kcell (c, some k)) 0

def before₀ : sProp 𝕄 := iprop(start m ρ c ∗ buffers c)
def after₀ : sProp 𝕄 := iprop(semVal (barCell c) 0 ∗ idle c ∗ buffers c)

theorem by_direction (Φ : Bool × Fin 7 → sProp 𝕄) : bigSep Finset.univ Φ
    = iprop((bigSep Finset.univ fun e : Fin 7 => Φ (false, e)) ∗ bigSep Finset.univ fun e : Fin 7 => Φ (true, e)) := by
  rw [bigSep_univ_prod, bigSep_univ_eq_bigSepL [false, true] (by decide) (by decide)]
  rfl
theorem by_cell (Φ : CI → sProp 𝕄) : bigSep Finset.univ Φ = iprop(Φ none ∗ bigSep Finset.univ fun k : Bool × Fin 7 => Φ (some k)) := by
  rw [bigSep_univ_equiv (Equiv.optionEquivSumPUnit.{0, 0} (Bool × Fin 7)).symm Φ, bigSep_univ_sum,
    show (bigSep Finset.univ fun b : PUnit.{1} => Φ ((Equiv.optionEquivSumPUnit.{0, 0} (Bool × Fin 7)).symm (Sum.inr b))) = Φ none from
      bigSep_univ_eq_bigSepL [PUnit.unit] (by decide) (by decide) _]
  exact Entails.antisymm BI.sep_comm BI.sep_comm

/-- The pipeline's data: the input's block stays, the output's becomes the kernel's result. -/
def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xstg m ρ c
    | ⟨1, _⟩ => outOf (xstg m ρ) c
  Φ t := match t with
    | ⟨0, _⟩ => before₀ m ρ c
    | ⟨_ + 1, _⟩ => after₀ c
  q _ := fullShare
  owed t := match t with
    | ⟨0, _⟩ => owed₀ c
    | ⟨_ + 1, _⟩ => 0

/-! ## The obligation -/

/-- A staging buffer with given contents. -/
abbrev staged (b : Ref sig .tc) (X : b.ty.Contents (Elt F)) : sProp 𝕄 :=
  iprop(∃ f : Buf (Elt F) ((c : Thread nD τ).loc b), ⌜f = X⌝ ∗ ((c : Thread nD τ).loc b) ↦{fullShare} f)
theorem owns_staged (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

theorem fetched (t : Fin cfg0.N) : (cfg0.win (0 : Fin 2)).fetch t = true := by rw [fin_N0 t]; rfl

def atEntry : sProp 𝕄 := iprop(before₀ m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
def atExit : sProp 𝕄 := iprop(after₀ c ∗ (dats m ρ 0 c).owesAt () t0_0.succ
    ∗ staged c cc0_stg0_0 (xstg m ρ c) ∗ staged c cc0_stg1_0 (outOf (xstg m ρ) c))

/-- The kernel takes a device from its entry to its exit. -/
theorem point_runs : atEntry m ρ c ⊢ runs c (cc0_body (F := F) xM (Memref.isWhole_whole _) oM (Memref.isWhole_whole _) gM (Memref.isWhole_whole _) eM (Memref.isWhole_whole _) cc0_scratch2 cc0_scratch3) (fun _ => atExit m ρ c) := by
  unfold atEntry before₀ start ghost buffers places payToks
  rw [by_cell, by_direction, bigSep_fin7, bigSep_fin7, bigSep_fin7, bigSep_fin7]
  iintro ⟨⟨⟨⟨%K, #HR, ⟨Hat, ⟨T0, T1, T2, T3, T4, T5, T6⟩, ⟨V0, V1, V2, V3, V4, V5, V6⟩⟩, ⟨R0, R1, R2, R3, R4, R5, R6⟩⟩, Hc, ⟨W0, W1, W2, W3, W4, W5, W6⟩, #Hlev⟩, ⟨%f, Hg⟩, ⟨%f', He⟩⟩,
    Ho, ⟨%d0, %g0, %hg0, Hx⟩, ⟨%d1, %g1, %hg1, Hout⟩⟩
  have hx : g0 = xstg m ρ c := by rw [hg0]; unfold Dat.before; rw [if_pos (fetched t0_0)]; rfl
  subst hx
  ihave Hg' := (Entails.of_eq (gather_rows c f)) $$ Hg
  rw [bigSep_fin7]
  icases Hg' with ⟨Hb, ⟨B0, B1, B2, B3, B4, B5, B6⟩⟩
  icases R0 with ⟨A0, E0, G0⟩
  icases R1 with ⟨A1, E1, G1⟩
  icases R2 with ⟨A2, E2, G2⟩
  icases R3 with ⟨A3, E3, G3⟩
  icases R4 with ⟨A4, E4, G4⟩
  icases R5 with ⟨A5, E5, G5⟩
  icases R6 with ⟨A6, E6, G6⟩
  unfold Dat.owesAt Pipeline.owesWithin
  icases Ho with ⟨%W, %hW, HO⟩
  iapply (body_runs m ρ K c) $$ [-]
  · isplitr; · iexact HR
    isplitl [HO]; · unfold debt; iexists W; iexact HO
    isplitl [A0 B0 A1 B1 A2 B2 A3 B3 A4 B4 A5 B5 A6 B6]
    · unfold signalRight
      isplitl [A0 B0]
      · isplitl [A0]; · iexact A0
        iexists f; iexact B0
      isplitl [A1 B1]
      · isplitl [A1]; · iexact A1
        iexists f; iexact B1
      isplitl [A2 B2]
      · isplitl [A2]; · iexact A2
        iexists f; iexact B2
      isplitl [A3 B3]
      · isplitl [A3]; · iexact A3
        iexists f; iexact B3
      isplitl [A4 B4]
      · isplitl [A4]; · iexact A4
        iexists f; iexact B4
      isplitl [A5 B5]
      · isplitl [A5]; · iexact A5
        iexists f; iexact B5
      isplitl [A6]; · iexact A6
      iexists f; iexact B6
    isplitr; · iexact Hlev
    isplitl [Hc]; · iexact Hc
    isplitl [Hat]; · iexact Hat
    isplitl [Hx]; · unfold xPts; iexact Hx
    isplitl [Hb]; · iexact Hb
    isplitl [E0 G0 E1 G1 E2 G2 E3 G3 E4 G4 E5 G5 E6 G6]
    · unfold copyRight
      isplitl [E0 G0]; · isplitl [E0] <;> iassumption
      isplitl [E1 G1]; · isplitl [E1] <;> iassumption
      isplitl [E2 G2]; · isplitl [E2] <;> iassumption
      isplitl [E3 G3]; · isplitl [E3] <;> iassumption
      isplitl [E4 G4]; · isplitl [E4] <;> iassumption
      isplitl [E5 G5]; · isplitl [E5] <;> iassumption
      isplitl [E6] <;> iassumption
    isplitl [W0 W1 W2 W3 W4 W5 W6]
    · isplitl [W0]; · iexact W0
      isplitl [W1]; · iexact W1
      isplitl [W2]; · iexact W2
      isplitl [W3]; · iexact W3
      isplitl [W4]; · iexact W4
      isplitl [W5]; · iexact W5
      iexact W6
    isplitl [V0 V1 V2 V3 V4 V5 V6]
    · isplitl [V0]; · iexact V0
      isplitl [V1]; · iexact V1
      isplitl [V2]; · iexact V2
      isplitl [V3]; · iexact V3
      isplitl [V4]; · iexact V4
      isplitl [V5]; · iexact V5
      iexact V6
    isplitl [T0 T1 T2 T3 T4 T5 T6]
    · isplitl [T0]; · iexact T0
      isplitl [T1]; · iexact T1
      isplitl [T2]; · iexact T2
      isplitl [T3]; · iexact T3
      isplitl [T4]; · iexact T4
      isplitl [T5]; · iexact T5
      iexact T6
    isplitl [He]; · unfold mPts; iexact He
    unfold oPts; iexact Hout
  iintro ⟨HO, Hz, Hx, Hout, Hz0, Hn0, Hz1, Hn1, Hz2, Hn2, Hz3, Hn3, Hz4, Hn4, Hz5, Hn5, Hz6, Hn6, D0, D1, D2, D3, D4, D5, D6, Hl, Hb, ⟨%g, He⟩⟩
  unfold returned
  icases D0 with ⟨Hs0, Hw0⟩
  icases D1 with ⟨Hs1, Hw1⟩
  icases D2 with ⟨Hs2, Hw2⟩
  icases D3 with ⟨Hs3, Hw3⟩
  icases D4 with ⟨Hs4, Hw4⟩
  icases D5 with ⟨Hs5, Hw5⟩
  icases D6 with ⟨Hs6, Hw6⟩
  unfold atExit after₀ idle buffers
  rw [by_direction, bigSep_fin7, bigSep_fin7]
  isplitl [Hz Hz0 Hs0 Hn0 Hw0 Hz1 Hs1 Hn1 Hw1 Hz2 Hs2 Hn2 Hw2 Hz3 Hs3 Hn3 Hw3 Hz4 Hs4 Hn4 Hw4 Hz5 Hs5 Hn5 Hw5 Hz6 Hs6 Hn6 Hw6 Hl Hb He]
  · isplitl [Hz]; · iexact Hz
    isplitl [Hz0 Hs0 Hz1 Hs1 Hz2 Hs2 Hz3 Hs3 Hz4 Hs4 Hz5 Hs5 Hz6 Hs6]
    · isplitl [Hs0 Hs1 Hs2 Hs3 Hs4 Hs5 Hs6]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        iexact Hs6
      isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      iexact Hz6
    isplitl [Hn0 Hw0 Hn1 Hw1 Hn2 Hw2 Hn3 Hw3 Hn4 Hw4 Hn5 Hw5 Hn6 Hw6 Hl Hb]
    · iexists (GG m ρ)
      iapply (Entails.of_eq (gather_rows c (GG m ρ)).symm)
      isplitl [Hw0 Hw1 Hw2 Hw3 Hw4 Hw5 Hw6 Hl Hb]
      · iapply (own_again c)
        isplitl [Hl]; · iexact Hl
        isplitl [Hb]; · iexact Hb
        isplitl [Hw0]; · iexact Hw0
        isplitl [Hw1]; · iexact Hw1
        isplitl [Hw2]; · iexact Hw2
        isplitl [Hw3]; · iexact Hw3
        isplitl [Hw4]; · iexact Hw4
        isplitl [Hw5]; · iexact Hw5
        iexact Hw6
      · rw [bigSep_fin7]
        isplitl [Hn0]; · iexact Hn0
        isplitl [Hn1]; · iexact Hn1
        isplitl [Hn2]; · iexact Hn2
        isplitl [Hn3]; · iexact Hn3
        isplitl [Hn4]; · iexact Hn4
        isplitl [Hn5]; · iexact Hn5
        iexact Hn6
    iexists g; unfold mPts; iexact He
  isplitl [HO]
  · unfold debt Dat.owesAt Pipeline.owesWithin
    icases HO with ⟨%W', HO⟩
    iexists W'
    isplitr; · ipureintro; exact fun _ _ => Or.inl trivial
    iexact HO
  unfold xPts oPts
  isplitl [Hx]
  · iexists _; isplitr; · (ipureintro; rfl)
    iexact Hx
  iexists _; isplitr; · (ipureintro; rfl)
  iexact Hout

set_option maxRecDepth 4000 in
/-- The library's obligation on the body. -/
theorem body_obligation : BodyObligation (dats (F := F) m ρ 0 c) (defs₀ (F := F)) 𝒱₀ () Set.univ := fun t => by
  rw [fin_N0 t]
  rw [bigSep_W0, bigSep_W0]
  simp only [owns_staged]
  exact point_runs m ρ c

end Cert.SortProof
end
-- ==== Proof.Run.lean ====
/-
# The whole run

The cells are set up at launch, each device is dealt the tokens of the duties it pays and the credit of what its peers
owe it, and every run of the program is seen to end, with the input unchanged and the result as computed.
-/
module

public import proofs.«01_k».proof.Proof.Device
public import Idealize.ShloMosaic.Lib.Pipeline.CollectiveSegs

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The cells and their tokens -/

/-- The fourteen semaphores a device's kernel owns. -/
abbrev osem : Bool × Fin 7 → SemLoc sig := fun k => csem (some k)
theorem ownSemFacts : Pipeline.OwnSemFacts cfg0.spec osem := by decide +kernel

theorem csem_injective : Function.Injective csem := by decide +kernel
theorem kcell_injective : Function.Injective (kcell : Dev nD × CI → GSem nD τ sig) := fun ⟨c, k⟩ ⟨c', k'⟩ h => by
  have hc : c = c' := congrArg (fun g : GSem nD τ sig => g.1.1) h
  subst hc
  exact congrArg (Prod.mk c) (csem_injective (congrArg Prod.snd h))
def allCells : Finset (GSem nD τ sig) := Finset.univ.map ⟨kcell, kcell_injective⟩

/-- The three cells that a device has for one peer number. -/
abbrev dutySem : Fin 7 × Fin 3 → SemLoc sig × Fin 7 := fun
  | (e, 0) => (.reg barS, e)
  | (e, 1) => (.dma (sendS e), e)
  | (e, 2) => (.dma (recvS e), e)
theorem dutySem_injective : Function.Injective dutySem := by decide +kernel
/-- Every duty of every cell, as the launch mints its token. -/
abbrev dutyOf (x : Dev nD × Fin 7 × Fin 3) : GSem nD τ sig × ℕ × Fin 7 := (((x.1 : Thread nD τ), (dutySem x.2).1), 0, (dutySem x.2).2)
theorem dutyOf_injective : Function.Injective (dutyOf : Dev nD × Fin 7 × Fin 3 → GSem nD τ sig × ℕ × Fin 7) := fun ⟨c, k⟩ ⟨c', k'⟩ h => by
  have hc : c = c' := congrArg (fun x : GSem nD τ sig × ℕ × Fin 7 => x.1.1.1) h
  subst hc
  exact congrArg (Prod.mk c) (dutySem_injective (congrArg (fun x : GSem nD τ sig × ℕ × Fin 7 => (x.1.2, x.2.2)) h))
def allDuties : Finset (GSem nD τ sig × ℕ × Fin 7) := Finset.univ.map ⟨dutyOf, dutyOf_injective⟩

def u₀ : UU := (initOf (Pipeline.cells cfgs cellOf_inj) (Pipeline.launchToks cfgs cellOf_inj), initOf allCells allDuties)

/-- The tokens of the duties of `c`'s own cells. -/
def toks : sProp 𝕄 := bigSep Finset.univ fun e : Fin 7 =>
  iprop(dutyTok EX (barCell c) 0 e ∗ dutyTok EX (sendCell e c) 0 e ∗ dutyTok EX (recvCell e c) 0 e)
/-- Its place in each of its cells, and that the cell has reached it. -/
def standing : sProp 𝕄 := bigSep Finset.univ fun k : CI => iprop(atPos EX (kcell (c, k)) 0 ∅ 0 ∗ reached EX (kcell (c, k)) 0)
def minted : sProp 𝕄 :=
  iprop((bigSep Finset.univ fun k : CI => roundState EX (sched m ρ) (kcell (c, k)) 0) ∗ standing c ∗ toks c)
def dealt : sProp 𝕄 := iprop(∃ K, ghost m ρ K c)

theorem over_cells (Φ : GSem nD τ sig → sProp 𝕄) :
    bigSep allCells Φ = bigSep Finset.univ fun c : Dev nD => bigSep Finset.univ fun k : CI => Φ (kcell (c, k)) := by
  unfold allCells; rw [bigSep_map, bigSep_univ_prod]; rfl
theorem over_duties : bigSep allDuties (fun x => (dutyTok EX x.1 x.2.1 x.2.2 : sProp 𝕄)) = bigSep Finset.univ fun c : Dev nD => toks c := by
  unfold allDuties
  rw [bigSep_map, bigSep_univ_prod]
  refine bigSep_congr fun c _ => ?_
  unfold toks
  refine (bigSep_univ_prod fun x : Fin 7 × Fin 3 => (dutyTok EX (dutyOf (c, x)).1 (dutyOf (c, x)).2.1 (dutyOf (c, x)).2.2 : sProp 𝕄)).trans ?_
  refine bigSep_congr fun e _ => ?_
  rw [bigSep_univ_eq_bigSepL [0, 1, 2] (by decide) (by decide)]
  rfl

theorem mint : BI.own (EX (initOf allCells allDuties)) ⊢ (|==> bigSep Finset.univ (minted m ρ) : sProp 𝕄) := by
  iintro H
  imod (Rounds.fund EX (sched m ρ) allCells allDuties) $$ H with ⟨Hst, Hr, Hat, Ht⟩
  imodintro
  unfold minted standing
  simp only [bigSep_sep']
  isplitl [Hst]; · iapply (Entails.of_eq (over_cells fun g => roundState EX (sched m ρ) g 0)); iexact Hst
  isplitl [Hat Hr]
  · isplitl [Hat]
    · iapply (Entails.of_eq (over_cells fun g => atPos EX g 0 ∅ 0)); iexact Hat
    · iapply (Entails.of_eq (over_cells fun g => reached EX g 0)); iexact Hr
  iapply (Entails.of_eq over_duties); iexact Ht

/-! ## The cells opened -/

abbrev ownZero : sProp 𝕄 := Pipeline.ownSems0 (Ix := Unit) (Name := ℕ) (U := UU) (Lvl := ℕ) (Val := Elt F) (τ := τ) osem c
theorem barrier_zero : (unscopedSems0 c : sProp 𝕄) = semVal (barCell c) 0 := by
  unfold unscopedSems0; rw [bigSep_eq_bigSepL_of_eq [SemLoc.reg barS] (by decide) (by decide)]; rfl
theorem own_zero : (ownZero c : sProp 𝕄) = idle c := rfl

theorem all_zero : iprop(ownZero c ∗ unscopedSems0 c) ⊢ (bigSep Finset.univ fun k : CI => semVal (kcell (c, k)) 0 : sProp 𝕄) := by
  rw [by_cell, barrier_zero, own_zero]
  exact BI.sep_comm

/-- The cells of one device under invariants, at some names. -/
def opened : sProp 𝕄 := bigSep Finset.univ fun k : CI => iprop(∃ κ : ℕ, cellInv EX (sched m ρ) κ (kcell (c, k)))

theorem open_cells : iprop(ownZero c ∗ unscopedSems0 c ∗ minted m ρ c) ⊢ |={Set.univ}=> iprop(opened m ρ c ∗ standing c ∗ toks c) := by
  have hopen : iprop((bigSep Finset.univ fun k : CI => semVal (kcell (c, k)) 0) ∗ bigSep Finset.univ fun k : CI => roundState EX (sched m ρ) (kcell (c, k)) 0)
      ⊢ (|={Set.univ}=> opened m ρ c : sProp 𝕄) := by
    rw [← bigSep_sep']
    exact (bigSep_mono fun k _ => (Rounds.body_intro EX (sched m ρ) (kcell (c, k))).trans inv_alloc).trans (bigSep_fupd _ _)
  unfold minted
  iintro ⟨Ho, Hu, Hst, Hat, Ht⟩
  imod hopen $$ [Ho Hu Hst] with Hi
  · isplitl [Ho Hu]
    · iapply (all_zero c); isplitl [Ho] <;> iassumption
    iexact Hst
  imodintro
  isplitl [Hi]; · iexact Hi
  isplitl [Hat] <;> iassumption

/-- Each device is given the tokens of the duties it pays: of its peers' barriers and receive cells. -/
theorem deal_toks : (bigSep Finset.univ fun c : Dev nD => (toks c : sProp 𝕄)) ⊢ bigSep Finset.univ fun c : Dev nD => payToks c := by
  unfold toks payToks
  rw [Pipeline.bigSep_univ_comm, Pipeline.bigSep_univ_comm fun (c : Dev nD) (e : Fin 7) => iprop(dutyTok EX (barCell (peer e c)) 0 e
    ∗ dutyTok EX (sendCell e c) 0 e ∗ dutyTok EX (recvCell e (peer e c)) 0 e)]
  refine bigSep_mono fun e _ => ?_
  rw [bigSep_sep', bigSep_sep', bigSep_sep', bigSep_sep',
    bigSep_univ_equiv (matching e) (fun c : Dev nD => (dutyTok EX (barCell c) 0 e : sProp 𝕄)),
    bigSep_univ_equiv (matching e) (fun c : Dev nD => (dutyTok EX (recvCell e c) 0 e : sProp 𝕄))]
  exact BI.Entails.refl _

theorem deal_ghost (K : Dev nD × CI → ℕ) : iprop(records m ρ K ∗ places c ∗ payToks c) ⊢ dealt m ρ c := by
  unfold dealt ghost
  iintro H
  iexists K; iexact H

theorem deal_all : (bigSep Finset.univ fun c : Dev nD => iprop(opened m ρ c ∗ standing c ∗ toks c)) ⊢ bigSep Finset.univ (dealt m ρ) := by
  unfold opened standing
  rw [bigSep_sep', bigSep_sep', ← bigSep_univ_prod (fun ck : Dev nD × CI => iprop(∃ κ : ℕ, cellInv EX (sched m ρ) κ (kcell ck))),
    bigSep_congr (s := Finset.univ) (fun (c : Dev nD) _ => bigSep_sep' Finset.univ (fun k : CI => (atPos EX (kcell (c, k)) 0 ∅ 0 : sProp 𝕄)) (fun k => reached EX (kcell (c, k)) 0)),
    bigSep_sep', ← bigSep_univ_prod (fun ck : Dev nD × CI => (reached EX (kcell ck) 0 : sProp 𝕄))]
  iintro ⟨HI, ⟨Hat, #HR⟩, Ht⟩
  ihave HK := (BI.bigSep_exists_pi Finset.univ (fun (ck : Dev nD × CI) (κ : ℕ) => (cellInv EX (sched m ρ) κ (kcell ck) : sProp 𝕄))) $$ HI
  icases HK with ⟨%K, #HI⟩
  ihave Hp := deal_toks $$ Ht
  have hrec : iprop(records m ρ K ∗ bigSep Finset.univ fun c : Dev nD => iprop(places c ∗ payToks c)) ⊢ bigSep Finset.univ (dealt m ρ) :=
    (sep_mono_left (BI.bigSep_of_persistent Finset.univ (records m ρ K))).trans
      (by rw [← bigSep_sep']; exact bigSep_mono fun c _ => deal_ghost m ρ c K)
  iapply hrec
  isplitr
  · unfold records; isplitl; · iexact HI
    iexact HR
  rw [bigSep_sep']
  isplitl [Hat]
  · unfold places; iexact Hat
  iexact Hp

theorem set_up : (bigSep Finset.univ fun c => iprop(ownZero c ∗ unscopedSems0 c ∗ minted m ρ c)) ⊢ |={Set.univ}=> bigSep Finset.univ (dealt m ρ) :=
  ((bigSep_mono fun c _ => open_cells m ρ c).trans (bigSep_fupd _ _)).trans (BI.fupd_mono (deal_all m ρ))

/-! ## The credit at launch -/

/-- What the peers owe device `c`. -/
def due : CellTallies nD τ sig Unit := (∑ e : Fin 7, tallyAt (recvCell e c) () N) + ∑ _e : Fin 7, tallyAt (barCell c) () 1

theorem owed_sum : owed₀ c = (∑ e : Fin 7, tallyAt (recvCell e (peer e c)) () N) + ∑ e : Fin 7, tallyAt (barCell (peer e c)) () 1 := by
  rw [Fin.sum_univ_seven, Fin.sum_univ_seven]
  unfold owed₀
  simp only [owedB, owedR, order]
  rw [zero_add]
  ac_rfl

theorem owed_due : (∑ d : Dev nD, owed₀ d) = ∑ d : Dev nD, due d := by
  rw [Finset.sum_congr rfl fun d _ => owed_sum d]
  unfold due
  rw [Finset.sum_add_distrib, Finset.sum_add_distrib]
  congr 1
  · rw [Finset.sum_comm, Finset.sum_comm (γ := Dev nD)]
    exact Finset.sum_congr rfl fun e _ => Equiv.sum_comp (matching e) fun d => tallyAt (recvCell e d) () N
  · rw [Finset.sum_comm, Finset.sum_comm (γ := Dev nD)]
    exact Finset.sum_congr rfl fun e _ => Equiv.sum_comp (matching e) fun d => tallyAt (barCell d) () 1

theorem due_own (d : Dev nD) (g : GSem nD τ sig) (h : due d g ≠ 0) : g.1 = (d : Thread nD τ) := by
  by_contra hg
  refine h ?_
  unfold due
  rw [Pi.add_apply, Finset.sum_apply, Finset.sum_apply]
  rw [Finset.sum_eq_zero fun e _ => tallyAt_ne_cell (fun h' => hg (congrArg Prod.fst h')) _ _, Finset.sum_eq_zero fun e _ => tallyAt_ne_cell (fun h' => hg (congrArg Prod.fst h')) _ _, add_zero]

theorem seven_units : (∑ _e : Fin 7, tallyAt (barCell c) () 1) = (tallyAt (barCell c) () 7 : CellTallies nD τ sig Unit) := by
  rw [Fin.sum_univ_seven, tallyAt_add, tallyAt_add, tallyAt_add, tallyAt_add, tallyAt_add, tallyAt_add]

theorem credit : (Pipeline.launchCred owed₀ c : sProp 𝕄)
    ⊢ iprop((bigSep Finset.univ fun e : Fin 7 => cred (tallyAt (recvCell e c) () N)) ∗ cred (tallyAt (barCell c) () 7)) := by
  rw [Pipeline.launchCred_of_sum owed₀ due owed_due due_own c]
  unfold due
  rw [Entails.antisymm (cred_add _ _).1 (cred_add _ _).2, Pipeline.cred_finsetSum, seven_units]

/-! ## The launch theorem's conditions -/

theorem to_start :
    iprop(Pipeline.unscopedRestP Pipeline.Prefetch.none cfg0.spec c (fun b => m ((c : Thread nD τ).loc b)) ∗ levAts L lv
        ∗ Pipeline.launchCred owed₀ c ∗ prngReg c (ρ c) ∗ dealt m ρ c)
      ⊢ |={Set.univ}=> iprop(start m ρ c ∗ emp) := by
  iintro ⟨-, Hl, Hc, -, Hg⟩
  ihave Hc' := (credit c) $$ Hc
  icases Hc' with ⟨Hr, Hb⟩
  imodintro
  unfold start dealt
  isplitl
  · isplitl [Hg]; · iexact Hg
    isplitl [Hb]; · iexact Hb
    isplitl [Hr]; · iexact Hr
    iexact Hl
  · iempintro

theorem to_first :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀ buffers
  iintro ⟨Hs, -, Hb⟩
  isplitl [Hs] <;> iassumption

theorem from_last : (dats m ρ 0 c).Φ (Fin.last cfg0.N) ⊢ iprop(unscopedSems0 c ∗ ownZero c ∗ Pipeline.scopedRest cfg0.spec c) := by
  rw [show (dats m ρ 0 c).Φ (Fin.last cfg0.N) = after₀ c from rfl, scopedRest0_eq, barrier_zero, own_zero]
  exact Entails.rfl

theorem stage_waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

theorem share_full (w : Fin cfg0.W) : (dats m ρ 0 c).share w = fullShare := by unfold Dat.share; split <;> rfl

/-! ## The run -/

/-- Each window's array ends at the contents the pipeline's data name. -/
def Ends (r : PUnit × MemSt nD τ sig (Elt F)) : Prop :=
  ∀ c : Dev nD, ∀ w : Fin cfg0.W, r.2.mem ((cfg0.win w).arr.view.loc (c : Thread nD τ)) = (dats m ρ 0 c).arrAt w cfg0.N

set_option maxRecDepth 8000 in
/-- For any float values, from any memory with every counter at zero, every fair run of the eight devices ends, each
    window's array as named and every counter at zero again. -/
theorem run_main : θ_run defs (onTc (τ := τ) (main (F := F))) (start₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := owed₀) (howed₀ := fun _ => rfl) (howedN := fun _ => rfl)
    (L := L) (lv := lv) (hL := L_of_ne) (hwaits := stage_waits m ρ)
    (G := minted m ρ) (G' := dealt m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := to_start m ρ) (hin := to_first m ρ) (hout := from_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array ends as it began. -/
theorem ends_arg : (dats m ρ 0 c).arrAt (0 : Fin 2) cfg0.N = m ((c : Thread nD τ).loc main_arg0) :=
  (dats (F := F) m ρ 0 c).arrAt_in (0 : Fin 2) rfl _

theorem read_arg (f : Buf (Elt F) ((c : Thread nD τ).loc main_arg0)) : (win0_0.blk t0_0).view.read (Elt F) f = f :=
  Memref.read_access_unit_zero (Elt F) main_arg0 (by decide +kernel) _ f
theorem read_res (f : Buf (Elt F) ((c : Thread nD τ).loc main_v1)) : (win0_1.blk t0_0).view.read (Elt F) f = f :=
  Memref.read_access_unit_zero (Elt F) main_v1 (by decide +kernel) _ f

/-- What the kernel is given of the input is the device's whole input array. -/
theorem xstg_eq : xstg m ρ c = m ((c : Thread nD τ).loc main_arg0) := read_arg c _

/-- The result array ends at the kernel's result. -/
theorem ends_res : (dats m ρ 0 c).arrAt (1 : Fin 2) cfg0.N = outOf (xstg m ρ) c := by
  have h : (win0_1.blk t0_0).view.read (Elt F) ((dats m ρ 0 c).arrAt (1 : Fin 2) cfg0.N) = (dats m ρ 0 c).flushed (1 : Fin 2) t0_0 := by
    rw [show cfg0.N = t0_0.val + 1 from rfl, (dats m ρ 0 c).arrAt_succ (1 : Fin 2) t0_0,
      show (cfg0.win (1 : Fin 2)).flush t0_0 = true from rfl, if_pos rfl]
    exact View.read_write_univ _ _
  rw [read_res c] at h
  exact h.trans (funext fun _ => rfl)

end Cert.SortProof
end
-- ==== Proof.Network.lean ====
/-
# The kernel's stages as a bitonic network on the columns

At the extended reals a compare-exchange stage of the kernel acts on each column as one stage of the bitonic network on
the positions of the block. So the own sort, the two merges and the closing stages are, on each column, the library's
networks, and sort what those sort.
-/
module

public import proofs.«01_k».proof.Proof.Contents
public import Idealize.ShloMosaic.Lib.SortNet.Sorts
public import Idealize.ShloMosaic.PureOps.Ideal

@[expose] public section

set_option maxRecDepth 16384

noncomputable section

namespace Cert.SortProof

open Cert.KernelIdeal Cert.KernelIdeal.Gen Idealize.ShloMosaic Idealize.ShloMosaic.SortNet

/-- Column `q` of a block, as a vector over `2 ^ p` positions. -/
def col {n : ℕ} (p : ℕ) (hn : 0 < n) (v : FVec Ideal (Blk n) .f32) (q : Fin 64) : Fin (2 ^ p) → EReal :=
  fun i => v (at2 hn i.val q)

/-! ## One stage -/

/-- The mask of the rows with the bit `2 ^ s` clear, at a row. -/
theorem lowRow_at {n s r : ℕ} (hs : s < 32) (hr : r < 2 ^ 32) (I : IVec (Blk n) 32) (i : (Blk n).Idx)
    (hI : I i = BitVec.ofNat 32 r) :
    lowRow I (BitVec.ofNat 32 (2 ^ s)) i = if r &&& 2 ^ s = 0 then 1#1 else 0#1 := by
  have h2 : 2 ^ s < 2 ^ 32 := Nat.pow_lt_pow_right (by decide) hs
  have hw : (BitVec.ofNat 32 r &&& BitVec.ofNat 32 (2 ^ s) = 0#32) ↔ r &&& 2 ^ s = 0 := by
    rw [← BitVec.toNat_inj, BitVec.toNat_and, BitVec.toNat_ofNat, BitVec.toNat_ofNat, Nat.mod_eq_of_lt hr,
      Nat.mod_eq_of_lt h2]
    rfl
  show BitVec.ofBool (I i &&& BitVec.ofNat 32 (2 ^ s) == 0#32) = _
  rw [hI]
  by_cases h : r &&& 2 ^ s = 0
  · rw [if_pos h, beq_iff_eq.mpr (hw.mpr h)]; rfl
  · rw [if_neg h, beq_eq_false_iff_ne.mpr (fun e => h (hw.mp e))]; rfl

/-- What a rotation by `n - d`, with `d ≤ n`, brings to row `r`. -/
theorem rotate_at {n a r r' : ℕ} (hn : 0 < n) (ha : a < 2 ^ 32) (hr : (Blk n).Rotates 0 none) (v : FVec Ideal (Blk n) .f32)
    (q : Fin 64) (h : (r % n + n - a % n) % n = r' % n) :
    dynamicRotate 0 (BitVec.ofNat 32 a) none v hr (at2 hn r q) = v (at2 hn r' q) := by
  show v _ = v _
  congr 1
  refine idx_ext ?_ rfl
  show (r % n + n - ((BitVec.ofNat 32 a).toNat + 0) % n) % n = r' % n
  rw [BitVec.toNat_ofNat, Nat.mod_eq_of_lt ha, Nat.add_zero, h]

/-- The value of a stage at an index, from the three masks and the row that is met there. -/
theorem cmpEx_at {n : ℕ} (hr : (Blk n).Rotates 0 none) (I : IVec (Blk n) 32) (D : IVec (Blk n) 1) (j a : BitVec 32)
    (v : FVec Ideal (Blk n) .f32) (i : (Blk n).Idx) (low keep : Bool) (hl : lowRow I j i = if low then 1#1 else 0#1)
    (hD : D i = if keep then 1#1 else 0#1) (m : EReal)
    (hm : m = if low then dynamicRotate 0 a none v hr i else dynamicRotate 0 j none v hr i) :
    cmpEx hr I D j a v i = if low = keep then min (v i) m else max (v i) m := by
  have hx : meets hr I j a v i = m := by
    rw [hm]
    show Scalar.select (lowRow I j i) _ _ = _
    rw [hl]; cases low <;> rfl
  show Scalar.select ((lowRow I j i ^^^ D i) ^^^ 1#1) (min (v i) (meets hr I j a v i)) (max (v i) (meets hr I j a v i)) = _
  rw [hl, hD, hx]
  cases low <;> cases keep <;> rfl

/-- One stage of the kernel, on a column: one stage of the network. Where `w` holds, the direction mask is zero. -/
theorem stage_col {n p s : ℕ} (hnp : n = 2 ^ p) (hp : p < 32) (hs : s < p) (hn : 0 < n) (hr : (Blk n).Rotates 0 none)
    (I : IVec (Blk n) 32) (hI : ∀ r q, r < n → I (at2 hn r q) = BitVec.ofNat 32 r) (D : IVec (Blk n) 1)
    (w : Fin (2 ^ p) → Bool) (hD : ∀ (i : Fin (2 ^ p)) q, D (at2 hn i.val q) = if w i then 0#1 else 1#1)
    (hw : ∀ i, w (partner p s i) = w i) {j a : BitVec 32} (hj : j = BitVec.ofNat 32 (2 ^ s))
    (ha : a = BitVec.ofNat 32 (n - 2 ^ s)) (v : FVec Ideal (Blk n) .f32) (q : Fin 64) :
    col p hn (cmpEx hr I D j a v) q = Network.apply (stage p s w) (col p hn v q) := by
  subst hj ha
  have h2 : 2 ^ s < n := hnp ▸ Nat.pow_lt_pow_right (by decide) hs
  have h3 : n < 2 ^ 32 := hnp ▸ Nat.pow_lt_pow_right (by decide) hp
  have hpos : 0 < 2 ^ s := Nat.two_pow_pos s
  funext i
  have hin : i.val < n := hnp ▸ i.isLt
  have him : i.val % n = i.val := Nat.mod_eq_of_lt hin
  have hlow := lowRow_at (by omega : s < 32) (by omega : i.val < 2 ^ 32) I (at2 hn i.val q) (hI _ q hin)
  have hD' : D (at2 hn i.val q) = if !w i then 1#1 else 0#1 := by rw [hD]; cases w i <;> rfl
  by_cases hi : i.val &&& 2 ^ s = 0
  · have hpv := partner_val_of_clear hs i hi
    have hpl : (partner p s i).val < n := hnp ▸ (partner p s i).isLt
    rw [(apply_stage hs w _ i hi).1]
    refine (cmpEx_at hr I D _ _ v (at2 hn i.val q) true (!w i) (by rw [hlow, if_pos hi]; rfl) hD'
      (col p hn v q (partner p s i)) ?_).trans ?_
    · refine (rotate_at hn (by omega) hr v q ?_).symm
      rw [him, Nat.mod_eq_of_lt (by omega : n - 2 ^ s < n), show i.val + n - (n - 2 ^ s) = (partner p s i).val by omega]
    · show _ = if w i = true then max (v _) _ else min (v _) _
      cases w i <;> rfl
  · obtain ⟨hge, hpv⟩ := partner_val_of_set hs i hi
    have hpc := partner_and_of_set hs i hi
    have h := (apply_stage hs w (col p hn v q) (partner p s i) hpc).2
    rw [partner_partner hs] at h
    rw [h]
    refine (cmpEx_at hr I D _ _ v (at2 hn i.val q) false (!w i) (by rw [hlow, if_neg hi]; rfl) hD'
      (col p hn v q (partner p s i)) ?_).trans ?_
    · refine (rotate_at hn (by omega) hr v q ?_).symm
      rw [him, Nat.mod_eq_of_lt h2, show i.val + n - 2 ^ s = (partner p s i).val + n by omega, Nat.add_mod_right]
    · rw [hw i, min_comm, max_comm]
      show _ = if w i = true then min _ (v _) else max _ (v _)
      cases w i <;> rfl

/-! ## Chains of stages -/

/-- A chain of maps of blocks, each a network on the columns, is those networks one after the other. -/
theorem chain_col {ι : Type} {n p : ℕ} (hn : 0 < n) (f : ι → FVec Ideal (Blk n) .f32 → FVec Ideal (Blk n) .f32)
    (N : ι → Network (2 ^ p)) (q : Fin 64) (L : List ι)
    (h : ∀ x ∈ L, ∀ v, col p hn (f x v) q = Network.apply (N x) (col p hn v q)) (v : FVec Ideal (Blk n) .f32) :
    col p hn (L.foldl (fun v x => f x v) v) q = Network.apply (L.flatMap N) (col p hn v q) := by
  induction L generalizing v with
  | nil => rfl
  | cons x L ih =>
    rw [List.foldl_cons, ih (fun y hy => h y (List.mem_cons_of_mem x hy)), h x List.mem_cons_self, List.flatMap_cons,
      Network.apply_append]

/-- The stages at the distances `2 ^ (p - 1)` down to 1, in one direction. -/
theorem merge_col {n p : ℕ} (hnp : n = 2 ^ p) (hp : p < 32) (hn : 0 < n) (hr : (Blk n).Rotates 0 none)
    (I : IVec (Blk n) 32) (hI : ∀ r q, r < n → I (at2 hn r q) = BitVec.ofNat 32 r) (D : IVec (Blk n) 1) (b : Bool)
    (hD : ∀ i, D i = if b then 0#1 else 1#1) (v : FVec Ideal (Blk n) .f32) (q : Fin 64) :
    col p hn ((List.range p).reverse.foldl
        (fun v s => cmpEx hr I D (BitVec.ofNat 32 (2 ^ s)) (BitVec.ofNat 32 (n - 2 ^ s)) v) v) q =
      Network.apply (if b then mergeDescNet p else mergeAscNet p) (col p hn v q) := by
  refine (chain_col hn (fun s v => cmpEx hr I D (BitVec.ofNat 32 (2 ^ s)) (BitVec.ofNat 32 (n - 2 ^ s)) v)
    (fun s => stage p s fun _ => b) q _ (fun s hs v => ?_) v).trans ?_
  · exact stage_col hnp hp (List.mem_range.mp (List.mem_reverse.mp hs)) hn hr I hI D (fun _ => b) (fun _ _ => hD _)
      (fun _ => rfl) rfl rfl v q
  · cases b <;> rfl

theorem rows₁ (r : ℕ) (q : Fin 64) (h : r < 128) : I₁ (at2 (n := 128) (by decide) r q) = BitVec.ofNat 32 r := by
  show BitVec.ofNat 32 (0 * 128 + r % 128) = _
  rw [Nat.zero_mul, Nat.zero_add, Nat.mod_eq_of_lt h]
theorem rows₂ (r : ℕ) (q : Fin 64) (h : r < 256) : I₂ (at2 (n := 256) (by decide) r q) = BitVec.ofNat 32 r := by
  show BitVec.ofNat 32 (0 * 256 + r % 256) = _
  rw [Nat.zero_mul, Nat.zero_add, Nat.mod_eq_of_lt h]
theorem rows₅ (r : ℕ) (q : Fin 64) (h : r < 512) : I₅ (at2 (n := 512) (by decide) r q) = BitVec.ofNat 32 r := by
  show BitVec.ofNat 32 (0 * 512 + r % 512) = _
  rw [Nat.zero_mul, Nat.zero_add, Nat.mod_eq_of_lt h]

/-- The merge of 256 rows of run number `b`: upwards where `b` is even. -/
theorem merge₂_col (b : ℕ) (v : FVec Ideal S256x64 .f32) (q : Fin 64) :
    col 8 (n := 256) (by decide) (merge₂ (evenBit b) v) q =
      Network.apply (if b % 2 = 0 then mergeAscNet 8 else mergeDescNet 8) (col 8 (n := 256) (by decide) v q) := by
  refine (merge_col (n := 256) (p := 8) rfl (by decide) (by decide) rotates_S256x64_d0 I₂ rows₂ (dir₂ (evenBit b))
    (!decide (b % 2 = 0)) (fun i => ?_) v q).trans ?_
  · show evenBit b = _
    unfold evenBit; by_cases h : b % 2 = 0 <;> simp [h]
  · by_cases h : b % 2 = 0 <;> simp [h]

/-- The merge of 512 rows. -/
theorem merge₅_col (b : ℕ) (v : FVec Ideal S512x64 .f32) (q : Fin 64) :
    col 9 (n := 512) (by decide) (merge₅ (evenBit b) v) q =
      Network.apply (if b % 2 = 0 then mergeAscNet 9 else mergeDescNet 9) (col 9 (n := 512) (by decide) v q) := by
  refine (merge_col (n := 512) (p := 9) rfl (by decide) (by decide) rotates_S512x64_d0 I₅ rows₅ (dir₅ (evenBit b))
    (!decide (b % 2 = 0)) (fun i => ?_) v q).trans ?_
  · show evenBit b = _
    unfold evenBit; by_cases h : b % 2 = 0 <;> simp [h]
  · by_cases h : b % 2 = 0 <;> simp [h]

/-- The closing stages: always upwards. -/
theorem closing_col (v : FVec Ideal S128x64 .f32) (q : Fin 64) :
    col 7 (n := 128) (by decide) (closing v) q = Network.apply (mergeAscNet 7) (col 7 (n := 128) (by decide) v q) :=
  merge_col (n := 128) (p := 7) rfl (by decide) (by decide) rotates_S128x64_d0 I₁ rows₁ (dir₁ 1#1) false (fun _ => rfl) v q

/-! ## A device's own sort -/

/-- The levels and distances of the stages of the own sort, in their order. -/
def ownSteps : List (ℕ × ℕ) := (List.range 7).flatMap fun l => (List.range (l + 1)).reverse.map fun s => (l, s)

/-- One of them. -/
def ownStep (f : BitVec 1) (x : ℕ × ℕ) (v : FVec Ideal (Blk 128) .f32) : FVec Ideal (Blk 128) .f32 :=
  own f (BitVec.ofNat 32 (2 ^ (x.1 + 1))) (BitVec.ofNat 32 (2 ^ x.2)) (BitVec.ofNat 32 (128 - 2 ^ x.2)) v

theorem ownSort_steps (f : BitVec 1) (v : FVec Ideal S128x64 .f32) :
    ownSort f v = ownSteps.foldl (fun v x => ownStep f x v) v := rfl

/-- A bit above the distance is the partner's as well. -/
theorem partner_high {p s t : ℕ} (hs : s < p) (hst : s < t) (i : Fin (2 ^ p)) :
    (partner p s i).val &&& 2 ^ t = 0 ↔ i.val &&& 2 ^ t = 0 := by
  rw [and_two_pow_eq_zero_iff_testBit, and_two_pow_eq_zero_iff_testBit, partner_val hs, Nat.testBit_xor,
    Nat.testBit_two_pow_of_ne (by omega), Bool.xor_false]

/-- The own sort with the flag of an odd number: downwards. -/
theorem ownSort_col (b : ℕ) (v : FVec Ideal S128x64 .f32) (q : Fin 64) :
    col 7 (n := 128) (by decide) (ownSort (oddBit b) v) q =
      Network.apply (sortNet 7 (decide (b % 2 = 1))) (col 7 (n := 128) (by decide) v q) := by
  have h := chain_col (p := 7) (n := 128) (by decide) (ownStep (oddBit b))
    (fun x => stage 7 x.2 fun i => decide (i.val &&& 2 ^ (x.1 + 1) = 0) == decide (b % 2 = 1)) q ownSteps
    (fun x hx v => ?_) v
  · rw [ownSort_steps, h]
    unfold ownSteps sortNet
    rw [List.flatMap_assoc]
    simp only [List.flatMap_map]
  · obtain ⟨l, s⟩ := x
    obtain ⟨l', hl, hx⟩ := List.mem_flatMap.mp hx
    obtain ⟨s', hs, hx⟩ := List.mem_map.mp hx
    cases hx
    have hl := List.mem_range.mp hl
    have hs := List.mem_range.mp (List.mem_reverse.mp hs)
    refine stage_col (n := 128) (p := 7) rfl (by decide) (by omega : s < 7) (by decide) rotates_S128x64_d0 I₁ rows₁
      (runDir (oddBit b) (BitVec.ofNat 32 (2 ^ (l + 1)))) _ (fun i q => ?_) (fun i => ?_) rfl rfl v q
    · have h := lowRow_at (by omega : l + 1 < 32) (by have := i.isLt; omega : i.val < 2 ^ 32) I₁
        (at2 (n := 128) (by decide) i.val q) (rows₁ _ q i.isLt)
      show lowRow I₁ (BitVec.ofNat 32 (2 ^ (l + 1))) (at2 (n := 128) (by decide) i.val q) ^^^ oddBit b = _
      rw [h]
      unfold oddBit
      by_cases h1 : i.val &&& 2 ^ (l + 1) = 0 <;> by_cases h2 : b % 2 = 1 <;> simp [h1, h2]
    · show (decide _ == _) = (decide _ == _)
      rw [decide_eq_decide.mpr (partner_high (by omega : s < 7) (by omega : s < l + 1) i)]

/-! ## Whole arrays -/

/-- Column `q` of a whole array. -/
abbrev colW (A : FVec Ideal S1024x64 .f32) (q : Fin 64) : Fin (2 ^ 10) → EReal := col 10 (n := 1024) (by decide) A q

/-- A column of some rows of an array is the chunk of the array's column. -/
theorem rowsOf_col {n p : ℕ} (hnp : n = 2 ^ p) (hp : p ≤ 10) (hn : 0 < n) (A : FVec Ideal S1024x64 .f32) (q : Fin 64)
    (c : Fin (2 ^ (10 - p))) :
    col p hn (rowsOf n (n * c.val) A) q = fun j => colW A q (chunkPos hp c j) := by
  funext j
  show A (atW (n * c.val + j.val % n) q) = A (atW (c.val * 2 ^ p + j.val) q)
  rw [Nat.mod_eq_of_lt (hnp ▸ j.isLt), hnp, Nat.mul_comm]

/-- A column of an array glued from blocks is, on a chunk, the block's column. -/
theorem glue_col {n p : ℕ} (hnp : n = 2 ^ p) (hp : p ≤ 10) (hn : 0 < n) (B : ℕ → FVec Ideal (Blk n) .f32) (q : Fin 64)
    (c : Fin (2 ^ (10 - p))) :
    (fun j => colW (glue n hn B) q (chunkPos hp c j)) = col p hn (B c.val) q := by
  rw [← rowsOf_col hnp hp hn (glue n hn B) q c, glue_rows n hn B c.val ?_]
  have h : n * 2 ^ (10 - p) = 1024 := by rw [hnp, ← Nat.pow_add, Nat.add_sub_cancel' hp]
  calc n * c.val + n = n * (c.val + 1) := by rw [Nat.mul_succ]
    _ ≤ n * 2 ^ (10 - p) := Nat.mul_le_mul_left n c.isLt
    _ = 1024 := h

/-- The exchange between whole runs is a stage of the network on 1024 positions. -/
theorem across_col {n s : ℕ} (hns : n = 2 ^ s) (hs : s < 10) (hn : 0 < n) (A : FVec Ideal S1024x64 .f32) (q : Fin 64) :
    colW (across n hn A) q = Network.apply (stage 10 s fun _ => false) (colW A q) := by
  funext i
  have hi : i.val < 1024 := i.isLt
  have hm : i.val % 1024 = i.val := Nat.mod_eq_of_lt hi
  have hdm : n * (i.val / n) + i.val % n = i.val := Nat.div_add_mod _ _
  have hbit : i.val &&& 2 ^ s = 0 ↔ i.val / n % 2 = 0 := by
    rw [and_two_pow_eq_zero_iff_testBit, Nat.testBit_eq_decide_div_mod_eq, hns]
    simp
  have hval : ∀ r, rowsOf n (n * r) A (at2 hn (i.val % 1024) q) = A (atW (n * r + i.val % n) q) := fun r => by
    show A (atW (n * r + i.val % 1024 % n) q) = _
    rw [hm]
  show (if i.val % 1024 / n % 2 = 0 then
      minimumf (rowsOf n (n * (i.val % 1024 / n)) A) (rowsOf n (n * (i.val % 1024 / n + 1)) A)
    else maximumf (rowsOf n (n * (i.val % 1024 / n)) A) (rowsOf n (n * (i.val % 1024 / n - 1)) A))
      (at2 hn (i.val % 1024) q) = _
  by_cases hc : i.val &&& 2 ^ s = 0
  · have hpv := partner_val_of_clear hs i hc
    rw [(apply_stage hs (fun _ => false) (colW A q) i hc).1, if_pos (by rw [hm]; exact hbit.mp hc)]
    show min (rowsOf n (n * (i.val % 1024 / n)) A (at2 hn (i.val % 1024) q))
      (rowsOf n (n * (i.val % 1024 / n + 1)) A (at2 hn (i.val % 1024) q)) = min (A (atW i.val q)) (A (atW (partner 10 s i).val q))
    rw [hval, hval, hm, hdm, hpv, Nat.mul_succ, ← hns, Nat.add_right_comm, hdm]
  · obtain ⟨hge, hpv⟩ := partner_val_of_set hs i hc
    have h := (apply_stage hs (fun _ => false) (colW A q) (partner 10 s i) (partner_and_of_set hs i hc)).2
    rw [partner_partner hs] at h
    rw [h, if_neg (by rw [hm]; exact fun e => hc (hbit.mpr e))]
    show max (rowsOf n (n * (i.val % 1024 / n)) A (at2 hn (i.val % 1024) q))
      (rowsOf n (n * (i.val % 1024 / n - 1)) A (at2 hn (i.val % 1024) q)) = max (A (atW (partner 10 s i).val q)) (A (atW i.val q))
    have hd : 1 ≤ i.val / n := by
      rcases Nat.eq_zero_or_pos (i.val / n) with h0 | h0
      · exact absurd (hbit.mpr (by rw [h0])) hc
      · exact h0
    have he : n * (i.val / n - 1) + i.val % n = i.val - 2 ^ s := by
      rw [Nat.mul_sub, Nat.mul_one]
      have : n ≤ n * (i.val / n) := Nat.le_mul_of_pos_right n hd
      omega
    rw [hval, hval, hm, hdm, hpv, he, max_comm]

end Cert.SortProof
end
-- ==== Proof.Sorted.lean ====
/-
# The kernel's result is sorted, and a rearrangement of its input

The chunks of a column of the gathered array are sorted upwards and downwards in turn. Each merge doubles the chunks and
keeps that, and what is left of the network, from the exchange at distance 512 to the closing stages, is the merge of
the 1024 positions. Every phase is a network, so it only rearranges.
-/
module

public import proofs.«01_k».proof.Proof.Network
public import Mathlib.Data.List.Sort
public import Mathlib.Data.List.FinRange
public import Mathlib.Logic.Equiv.Prod

@[expose] public section

set_option maxRecDepth 16384

noncomputable section

namespace Cert.SortProof

open Cert.KernelIdeal Cert.KernelIdeal.Gen Idealize.ShloMosaic Idealize.ShloMosaic.SortNet

/-! ## Chunks sorted in turn -/

/-- The chunks of `2 ^ p` positions are sorted, those of even number upwards and those of odd number downwards. -/
def InTurn {P p : ℕ} (hp : p ≤ P) (v : Fin (2 ^ P) → EReal) : Prop := ∀ c : Fin (2 ^ (P - p)),
  (c.val % 2 = 0 → Monotone fun j => v (chunkPos hp c j)) ∧ (c.val % 2 = 1 → Antitone fun j => v (chunkPos hp c j))

/-- Two neighbouring chunks, of which the first is of even number, ascend and then descend. -/
theorem InTurn.descAsc {P l : ℕ} (hl : l + 1 ≤ P) {v : Fin (2 ^ P) → EReal} (h : InTurn (Nat.le_of_succ_le hl) v)
    (c : Fin (2 ^ (P - (l + 1)))) : DescAsc fun j => v (chunkPos hl c j) := by
  have hc := c.isLt
  have he : 2 ^ (P - l) = 2 ^ (P - (l + 1)) * 2 := by rw [← Nat.pow_succ]; congr 1; omega
  have h0 := (h ⟨2 * c.val, by omega⟩).1 (by show 2 * c.val % 2 = 0; omega)
  have h1 := (h ⟨2 * c.val + 1, by omega⟩).2 (by show (2 * c.val + 1) % 2 = 1; omega)
  refine ⟨2 ^ l, Or.inr ⟨fun i j hij hj => ?_, fun i j hij hi => ?_⟩⟩
  · have hi : i.val < 2 ^ l := lt_of_le_of_lt hij hj
    have hm := h0 (show (⟨i.val, hi⟩ : Fin (2 ^ l)) ≤ ⟨j.val, hj⟩ from hij)
    simp only [chunkPos_two_mul hl] at hm
    rw [eq_lowerPos i hi, eq_lowerPos j hj]
    exact hm
  · have hj : ¬ j.val < 2 ^ l := by have : i.val ≤ j.val := hij; omega
    have hi' : ¬ i.val < 2 ^ l := by omega
    have hle : i.val ≤ j.val := hij
    have hp : 2 ^ (l + 1) = 2 ^ l * 2 := Nat.pow_succ 2 l
    have hil := i.isLt
    have hjl := j.isLt
    have hm := h1 (show (⟨i.val - 2 ^ l, by omega⟩ : Fin (2 ^ l)) ≤
      ⟨j.val - 2 ^ l, by omega⟩ from Nat.sub_le_sub_right hle _)
    simp only [chunkPos_two_mul_add_one hl] at hm
    rw [eq_upperPos i hi', eq_upperPos j hj]
    exact hm

/-- Merging every chunk, upwards where its number is even, leaves the chunks sorted in turn. -/
theorem InTurn.merged {P l : ℕ} (hl : l + 1 ≤ P) {v v' : Fin (2 ^ P) → EReal} (h : InTurn (Nat.le_of_succ_le hl) v)
    (hv : ∀ c : Fin (2 ^ (P - (l + 1))), (fun j => v' (chunkPos hl c j)) =
      Network.apply (if c.val % 2 = 0 then mergeAscNet (l + 1) else mergeDescNet (l + 1)) fun j => v (chunkPos hl c j)) :
    InTurn hl v' := fun c => by
  rw [hv c]
  refine ⟨fun hc => ?_, fun hc => ?_⟩
  · rw [if_pos hc]; exact mergeAscNet_apply_monotone _ _ (h.descAsc hl c)
  · rw [if_neg (by omega)]; exact mergeDescNet_apply_antitone _ _ (h.descAsc hl c)

/-! ## Rearrangements -/

/-- `v'` is `v` with its entries in another order. -/
def Rearranged {n : ℕ} (v v' : Fin n → EReal) : Prop := ∃ σ : Equiv.Perm (Fin n), v' = v ∘ σ

theorem Rearranged.trans {n : ℕ} {u v w : Fin n → EReal} (h : Rearranged u v) (h' : Rearranged v w) : Rearranged u w := by
  obtain ⟨σ, rfl⟩ := h
  obtain ⟨τ, rfl⟩ := h'
  exact ⟨τ.trans σ, rfl⟩

theorem rearranged_apply {n : ℕ} (N : Network n) (v : Fin n → EReal) : Rearranged v (Network.apply N v) :=
  Network.exists_perm N v

/-- Two sorted rearrangements of the same entries are equal. -/
theorem Rearranged.unique {n : ℕ} {u v w : Fin n → EReal} (hv : Rearranged u v) (hw : Rearranged u w) (mv : Monotone v)
    (mw : Monotone w) : v = w := by
  have sorted : ∀ {f : Fin n → EReal}, Monotone f → (List.ofFn f).Pairwise (· ≤ ·) := fun hf =>
    List.pairwise_ofFn.mpr fun i j hij => hf (le_of_lt hij)
  obtain ⟨σ, hσ⟩ := hv
  obtain ⟨τ, hτ⟩ := hw
  have hp : (List.ofFn v).Perm (List.ofFn w) := by
    rw [hσ, hτ]
    exact (σ.ofFn_comp_perm u).trans (τ.ofFn_comp_perm u).symm
  exact List.ofFn_injective (hp.eq_of_pairwise' (sorted mv) (sorted mw))

theorem chunkPos_div {P p : ℕ} (hp : p ≤ P) (c : Fin (2 ^ (P - p))) (j : Fin (2 ^ p)) :
    (chunkPos hp c j).val / 2 ^ p = c.val ∧ (chunkPos hp c j).val % 2 ^ p = j.val := by
  show (c.val * 2 ^ p + j.val) / 2 ^ p = c.val ∧ (c.val * 2 ^ p + j.val) % 2 ^ p = j.val
  rw [Nat.mul_comm, Nat.mul_add_div (Nat.two_pow_pos p), Nat.div_eq_of_lt j.isLt, Nat.mul_add_mod, Nat.mod_eq_of_lt j.isLt]
  exact ⟨rfl, rfl⟩

/-- The positions are the pairs of a chunk and a position in it. -/
def chunks {P p : ℕ} (hp : p ≤ P) : Fin (2 ^ (P - p)) × Fin (2 ^ p) ≃ Fin (2 ^ P) where
  toFun x := chunkPos hp x.1 x.2
  invFun i := (⟨i.val / 2 ^ p, by
    rw [Nat.div_lt_iff_lt_mul (Nat.two_pow_pos p), ← Nat.pow_add, Nat.sub_add_cancel hp]; exact i.isLt⟩,
    ⟨i.val % 2 ^ p, Nat.mod_lt _ (Nat.two_pow_pos p)⟩)
  left_inv x := Prod.ext (Fin.ext (chunkPos_div hp x.1 x.2).1) (Fin.ext (chunkPos_div hp x.1 x.2).2)
  right_inv i := Fin.ext (by show i.val / 2 ^ p * 2 ^ p + i.val % 2 ^ p = i.val; rw [Nat.mul_comm, Nat.div_add_mod])

/-- Rearranging every chunk rearranges the whole. -/
theorem Rearranged.of_chunks {P p : ℕ} (hp : p ≤ P) {v v' : Fin (2 ^ P) → EReal}
    (h : ∀ c : Fin (2 ^ (P - p)), Rearranged (fun j => v (chunkPos hp c j)) fun j => v' (chunkPos hp c j)) :
    Rearranged v v' := by
  choose σ hσ using h
  refine ⟨(chunks hp).symm.trans ((Equiv.prodShear (Equiv.refl _) σ).trans (chunks hp)), funext fun i => ?_⟩
  obtain ⟨⟨c, j⟩, rfl⟩ := (chunks hp).surjective i
  show v' (chunkPos hp c j) = v (chunks hp (Equiv.prodShear (Equiv.refl _) σ ((chunks hp).symm (chunks hp (c, j)))))
  rw [Equiv.symm_apply_apply]
  exact congrFun (hσ c) j

/-! ## The phases -/

variable (X : Dev nD → FVec Ideal S128x64 .f32) (q : Fin 64)

/-- The devices' inputs, and their results, as one array. -/
def inputs : FVec Ideal S1024x64 .f32 := glue 128 (by decide) fun b => X (dev b)
def results : FVec Ideal S1024x64 .f32 := glue 128 (by decide) fun b => outOf X (dev b)

theorem gathered_chunk (c : Fin (2 ^ 3)) : (fun j => colW (gathered X) q (chunkPos (P := 10) (p := 7) (by decide) c j)) =
    Network.apply (sortNet 7 (decide (c.val % 2 = 1))) fun j => colW (inputs X) q (chunkPos (P := 10) (p := 7) (by decide) c j) :=
  (glue_col (n := 128) (p := 7) rfl (by decide) (by decide) _ q c).trans ((ownSort_col c.val (X (dev c.val)) q).trans
    (congrArg _ (glue_col (n := 128) (p := 7) rfl (by decide) (by decide) (fun b => X (dev b)) q c).symm))

theorem merged₂_chunk (c : Fin (2 ^ 2)) : (fun j => colW (merged₂ X) q (chunkPos (P := 10) (p := 8) (by decide) c j)) =
    Network.apply (if c.val % 2 = 0 then mergeAscNet 8 else mergeDescNet 8)
      fun j => colW (gathered X) q (chunkPos (P := 10) (p := 8) (by decide) c j) :=
  (glue_col (n := 256) (p := 8) rfl (by decide) (by decide) _ q c).trans ((merge₂_col c.val _ q).trans
    (congrArg _ (rowsOf_col (n := 256) (p := 8) rfl (by decide) (by decide) (gathered X) q c)))

theorem merged₅_chunk (c : Fin (2 ^ 1)) : (fun j => colW (merged₅ X) q (chunkPos (P := 10) (p := 9) (by decide) c j)) =
    Network.apply (if c.val % 2 = 0 then mergeAscNet 9 else mergeDescNet 9)
      fun j => colW (merged₂ X) q (chunkPos (P := 10) (p := 9) (by decide) c j) :=
  (glue_col (n := 512) (p := 9) rfl (by decide) (by decide) _ q c).trans ((merge₅_col c.val _ q).trans
    (congrArg _ (rowsOf_col (n := 512) (p := 9) rfl (by decide) (by decide) (merged₂ X) q c)))

theorem gathered_inTurn : InTurn (P := 10) (p := 7) (by decide) (colW (gathered X) q) := fun c => by
  rw [gathered_chunk X q c]
  refine ⟨fun hc => ?_, fun hc => ?_⟩
  · rw [decide_eq_false (by omega)]; exact sortNet_apply_monotone 7 _
  · rw [decide_eq_true hc]; exact sortNet_apply_antitone 7 _

theorem merged₅_inTurn : InTurn (P := 10) (p := 9) (by decide) (colW (merged₅ X) q) :=
  ((gathered_inTurn X q).merged (P := 10) (l := 7) (by decide) (merged₂_chunk X q)).merged (P := 10) (l := 8) (by decide)
    (merged₅_chunk X q)

theorem after₁_col : colW (after₁ X) q = Network.apply (stage 10 9 (fun _ => false) ++ (stage 10 8 (fun _ => false) ++
    stage 10 7 fun _ => false)) (colW (merged₅ X) q) := by
  rw [Network.apply_append, Network.apply_append]
  refine (across_col (n := 128) (s := 7) rfl (by decide) (by decide) _ q).trans (congrArg _ ?_)
  refine (across_col (n := 256) (s := 8) rfl (by decide) (by decide) _ q).trans (congrArg _ ?_)
  exact across_col (n := 512) (s := 9) rfl (by decide) (by decide) _ q

/-- The closing stages of all devices, on the whole column. -/
theorem results_tail : colW (results X) q =
    Network.apply ((List.range 7).reverse.flatMap fun s => stage 10 s fun _ => false) (colW (after₁ X) q) := by
  funext i
  obtain ⟨⟨c, j⟩, rfl⟩ := (chunks (P := 10) (p := 7) (by decide)).surjective i
  have hd : (dev c.val).val = c.val := Nat.mod_eq_of_lt c.isLt
  refine (congrFun (glue_col (n := 128) (p := 7) rfl (by decide) (by decide) (fun b => outOf X (dev b)) q c) j).trans ?_
  refine Eq.trans ?_ (apply_flatMap_stage_chunk (P := 10) (p := 7) (by decide) (List.range 7).reverse
    (fun s hs => List.mem_range.mp (List.mem_reverse.mp hs)) (fun _ => false) (fun _ => false) (fun _ _ => rfl)
    (colW (after₁ X) q) c j).symm
  refine (congrFun (closing_col (rowsOf 128 (128 * (dev c.val).val) (after₁ X)) q) j).trans ?_
  rw [hd, rowsOf_col (n := 128) (p := 7) rfl (by decide) (by decide) (after₁ X) q c]
  rfl

/-- From the runs of 512 rows to the result: the merge of 1024 rows. -/
theorem results_col : colW (results X) q = Network.apply (mergeAscNet 10) (colW (merged₅ X) q) := by
  rw [results_tail, after₁_col, ← Network.apply_append]
  congr 1

/-- Every column of the kernel's result is sorted … -/
theorem results_monotone : Monotone (colW (results X) q) := by
  rw [results_col]
  have h := (merged₅_inTurn X q).descAsc (P := 10) (l := 9) (by decide) ⟨0, by decide⟩
  simp only [chunkPos_self] at h
  exact mergeAscNet_apply_monotone 10 _ h

/-- … and holds the entries of the input's column. -/
theorem results_rearranged : Rearranged (colW (inputs X) q) (colW (results X) q) := by
  have h1 : Rearranged (colW (inputs X) q) (colW (gathered X) q) :=
    Rearranged.of_chunks (P := 10) (p := 7) (by decide) fun c => gathered_chunk X q c ▸ rearranged_apply _ _
  have h2 : Rearranged (colW (gathered X) q) (colW (merged₂ X) q) :=
    Rearranged.of_chunks (P := 10) (p := 8) (by decide) fun c => merged₂_chunk X q c ▸ rearranged_apply _ _
  have h3 : Rearranged (colW (merged₂ X) q) (colW (merged₅ X) q) :=
    Rearranged.of_chunks (P := 10) (p := 9) (by decide) fun c => merged₅_chunk X q c ▸ rearranged_apply _ _
  rw [results_col]
  exact h1.trans (h2.trans (h3.trans (rearranged_apply _ _)))

end Cert.SortProof
end
-- ==== Proof.Reference.lean ====
/-
# The reference's sort, and the kernel's result beside it

At the extended reals the reference's comparator is the strict order: its two changes of an entry (zeros made one zero,
no-numbers made one) change nothing there. So a column of the sorted array is a sorted rearrangement of the column, and
there is only one.
-/
module

public import proofs.«01_k».proof.Proof.Sorted
public import proofs.«01_k».proof.ReferenceIdeal
public import Idealize.ShloMosaic.Lib.SortFacts
public import Idealize.ShloMosaic.Lib.Layout

@[expose] public section

set_option maxRecDepth 16384

noncomputable section

namespace Cert.SortProof

open Cert.KernelIdeal Cert.KernelIdeal.Gen Idealize.ShloMosaic Idealize.ShloMosaic.SortNet

/-! ## The comparator -/

/-- Putting a value in the place of its equal, and anything in the place of what differs from itself, changes nothing. -/
theorem canonical (l z w : EReal) :
    Scalar.select (Ideal.cmp .une l l) w (Scalar.select (Ideal.cmp .oeq l z) z l) = l := by
  have h1 : Ideal.cmp .une l l = 0#1 := by
    show BitVec.ofBool (decide (l ≠ l)) = 0#1
    rw [decide_eq_false (fun h => h rfl)]; rfl
  rw [h1]
  show Scalar.select (BitVec.ofBool (decide (l = z))) z l = l
  by_cases h : l = z
  · rw [decide_eq_true h]; exact h.symm
  · rw [decide_eq_false h]; rfl

theorem comparator_eq (l r : EReal) :
    Cert.ReferenceIdeal.comparator_f32_d0 (F := Ideal) l r = BitVec.ofBool (decide (l < r)) := by
  show Ideal.cmp .olt (Scalar.select (Ideal.cmp .une l l) _ (Scalar.select (Ideal.cmp .oeq l _) _ l))
    (Scalar.select (Ideal.cmp .une r r) _ (Scalar.select (Ideal.cmp .oeq r _) _ r)) = _
  rw [canonical, canonical]
  rfl

theorem before_eq (l r : EReal) :
    (Cert.ReferenceIdeal.comparator_f32_d0 (F := Ideal) l r == 1#1) = decide (l < r) := by
  rw [comparator_eq]
  cases decide (l < r) <;> rfl

/-! ## The sorted array -/

/-- The array that the reference returns. -/
abbrev sorted (x : FVec Ideal S1024x64 .f32) : FVec Ideal S1024x64 .f32 :=
  Host.sort S1024x64 0 (Cert.ReferenceIdeal.comparator_f32_d0 (F := Ideal)) x

/-- The order in which the sort takes the entries of a column. -/
def source (u : Fin (2 ^ 10) → EReal) : Fin (2 ^ 10) → Fin (2 ^ 10) := sortedFrom fun k k' => decide (u k < u k')

theorem sorted_col (x : FVec Ideal S1024x64 .f32) (q : Fin 64) : colW (sorted x) q = fun i => colW x q (source (colW x q) i) := by
  funext i
  have hi : i.val % 1024 = i.val := Nat.mod_eq_of_lt i.isLt
  have ha : ∀ k : Fin 1024, (atW i.val q).along (0 : Fin S1024x64.rank) k = atW k.val q := fun k =>
    idx_ext (n := 1024) (Nat.mod_eq_of_lt k.isLt).symm rfl
  have hs : sorted x (atW i.val q) = x ((atW i.val q).along (0 : Fin S1024x64.rank)
      (sortedFrom (fun k k' => Cert.ReferenceIdeal.comparator_f32_d0 (F := Ideal)
        (x ((atW i.val q).along (0 : Fin S1024x64.rank) k)) (x ((atW i.val q).along (0 : Fin S1024x64.rank) k')) == 1#1)
        ((atW i.val q) (0 : Fin S1024x64.rank)))) := rfl
  have h0 : (atW i.val q) (0 : Fin S1024x64.rank) = i := Fin.ext hi
  have hb : (fun k k' : Fin 1024 => Cert.ReferenceIdeal.comparator_f32_d0 (F := Ideal)
        (x ((atW i.val q).along (0 : Fin S1024x64.rank) k)) (x ((atW i.val q).along (0 : Fin S1024x64.rank) k')) == 1#1) =
      fun k k' => decide (colW x q k < colW x q k') := by
    funext k k'
    rw [ha, ha, before_eq]
    rfl
  show sorted x (atW i.val q) = _
  refine hs.trans ((congrArg x (ha _)).trans ?_)
  exact congrArg (fun k : Fin 1024 => x (atW k.val q)) (congr (congrArg (sortedFrom (n := 1024)) hb) h0)

/-- Every column of the reference's result is sorted … -/
theorem sorted_monotone (x : FVec Ideal S1024x64 .f32) (q : Fin 64) : Monotone (colW (sorted x) q) := by
  rw [sorted_col]
  intro i j hij
  rcases eq_or_lt_of_le hij with rfl | hlt
  · exact le_refl _
  · have h := sortedFrom_noInversion (fun k k' => decide (colW x q k < colW x q k')) (fun k k' => decide (colW x q k < colW x q k'))
      (fun a b h => decide_eq_false (not_lt.mpr (le_of_lt (of_decide_eq_true h)))) (fun a b h => h)
      (fun a b c h h' => decide_eq_false (not_lt.mpr ((not_lt.mp (of_decide_eq_false h')).trans (not_lt.mp (of_decide_eq_false h)))))
      i j hlt
    exact not_lt.mp (of_decide_eq_false h)

/-- … and holds the entries of the input's column. -/
theorem sorted_rearranged (x : FVec Ideal S1024x64 .f32) (q : Fin 64) : Rearranged (colW x q) (colW (sorted x) q) :=
  ⟨Equiv.ofBijective (source (colW x q)) ⟨sortedFrom_injective _, sortedFrom_surjective _⟩, sorted_col x q⟩

/-! ## The two beside each other -/

variable (X : Dev nD → FVec Ideal S128x64 .f32)

theorem results_eq : results X = sorted (inputs X) := by
  funext i
  have h := (results_rearranged X (colOf i)).unique (sorted_rearranged (inputs X) (colOf i)) (results_monotone X (colOf i))
    (sorted_monotone (inputs X) (colOf i))
  have hi := congrFun h ⟨rowOf i, rowOf_lt i⟩
  have he : atW (rowOf i) (colOf i) = i := at2_self (n := 1024) (by decide) i
  have hc : ∀ A : FVec Ideal S1024x64 .f32, colW A (colOf i) ⟨rowOf i, rowOf_lt i⟩ = A i := fun A => congrArg A he
  rwa [hc, hc] at hi

/-- A device's block of an array: its rows. -/
theorem block_rows (x : FVec Ideal S1024x64 .f32) (c : Dev nD) :
    Layout.block ⟨2, ![128, 64]⟩ ⟨2, ![1024, 64]⟩ 0 8 c x = rowsOf 128 (128 * c.val) x := by
  funext j
  have hj := rowOf_lt (n := 128) j
  have hc : c.val < 8 := c.isLt
  show x _ = x _
  congr 1
  refine idx_ext (n := 1024) ?_ rfl
  show c.val * 128 + rowOf (n := 128) j = (128 * c.val + rowOf (n := 128) j) % 1024
  rw [Nat.mod_eq_of_lt (by omega), Nat.mul_comm]

/-- An array whose blocks the devices hold is the devices' inputs as one array. -/
theorem inputs_eq (x : FVec Ideal S1024x64 .f32) (h : ∀ c : Dev nD, X c = rowsOf 128 (128 * c.val) x) : inputs X = x := by
  funext i
  have hi := rowOf_lt (n := 1024) i
  have hd : (dev (rowOf (n := 1024) i / 128)).val = rowOf (n := 1024) i / 128 := Nat.mod_eq_of_lt (by omega)
  show X (dev (rowOf (n := 1024) i / 128)) (at2 _ (rowOf (n := 1024) i) (colOf (n := 1024) i)) = _
  rw [h, hd]
  show x _ = x _
  congr 1
  refine idx_ext (n := 1024) ?_ rfl
  show (128 * (rowOf (n := 1024) i / 128) + rowOf (n := 1024) i % 128) % 1024 = rowOf (n := 1024) i
  rw [Nat.div_add_mod, Nat.mod_eq_of_lt hi]

/-- The kernel's result on a device is the device's block of the sorted array. -/
theorem result_block (x : FVec Ideal S1024x64 .f32) (h : ∀ c : Dev nD, X c = rowsOf 128 (128 * c.val) x) (c : Dev nD) :
    outOf X c = Layout.block ⟨2, ![128, 64]⟩ ⟨2, ![1024, 64]⟩ 0 8 c (sorted x) := by
  have hc : c.val < 8 := c.isLt
  rw [block_rows, ← inputs_eq X x h, ← results_eq]
  refine (congrArg (outOf X) (dev_val c)).symm.trans ?_
  exact (glue_rows 128 (by decide) (fun b => outOf X (dev b)) c.val (by omega)).symm

end Cert.SortProof
end
-- ==== Proof.lean ====
/-
# The claims

Of every run of the kernel on eight devices, and of its reference on one: it ends, its input is unchanged, every
semaphore is at zero again, and the kernel's result is the reference's.
-/
module

public import proofs.«01_k».proof.Defs
public import proofs.«01_k».proof.Proof.Run
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.SortProof

/-- The run of the kernel, over any float values, read at its input and its counters. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (ends_arg m ρ c), h.2⟩) (run_main m ρ)

theorem frame_ideal : Cert.quiescent_KernelIdeal := fun m ρ _ => frame_any m ρ

/-- The two printings of the kernel have the same body table. -/
theorem bodies_same : Cert.Kernel.defs₀ (F := Bits) = Cert.KernelIdeal.defs₀ (F := Bits) := by
  funext p ℓ a
  match p, ℓ, a with
  | .tc, 0, (t, s) => rfl
  | .tc, ⟨_ + 1, h⟩, _ => exact absurd h (Nat.not_lt.2 (Nat.le_add_left _ _))
  | .scScalar _, _, _ => rfl
  | .scVector _ _, _, _ => rfl

/-- So they have the same table of calls. -/
theorem tables_same : Cert.Kernel.defs (F := Bits) = Cert.KernelIdeal.defs (F := Bits) :=
  congrArg (Pipeline.defs (Cert.KernelIdeal.pcfgs (F := Bits))) bodies_same

/-- The kernel at machine floats is the same program. -/
theorem frame_kernel : Cert.quiescent_Kernel := fun m ρ _ => by
  rw [tables_same]
  exact frame_any (F := Bits) m ρ

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals every device ends with its block of the array that the reference returns. -/
theorem value : Cert.algebraic_KernelIdeal_ReferenceIdeal := fun m ρ m' ρ' _ hm => by
  refine ⟨sorted (m' (((0 : Dev Cert.ReferenceIdeal.nD).tc : Thread Cert.ReferenceIdeal.nD Cert.ReferenceIdeal.τ).loc
    Cert.ReferenceIdeal.main_arg0)), ?_, ?_⟩
  · refine (θ_run Cert.KernelIdeal.defs _ _).mono (fun _ h c => ⟨?_, (h.1 c (0 : Fin 2)).trans (ends_arg m ρ c)⟩)
      (run_main (F := Ideal) m ρ)
    refine ((h.1 c (1 : Fin 2)).trans (ends_res m ρ c)).trans ?_
    exact result_block (xstg m ρ) _ (fun c => (xstg_eq m ρ c).trans ((hm c).trans (block_rows _ c))) c
  · exact (θ_run Cert.ReferenceIdeal.defs _ _).mono (fun _ h => h 0) (Cert.ReferenceIdeal.Value.run m' ρ')

theorem claim : Cert.Claim := ⟨Cert.Kernel.Gen.facts, Cert.KernelIdeal.Gen.facts, Cert.ReferenceIdeal.Gen.facts,
  frame_kernel, frame_ideal, frame_reference, trivial, value⟩

end Cert.Proof

end
